-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S2x512x8192 : Shape := ⟨3, ![2, 512, 8192]⟩
abbrev S2 : Shape := ⟨1, ![2]⟩
abbrev S_ : Shape := ⟨0, ![]⟩
abbrev S1x512x8192 : Shape := ⟨3, ![1, 512, 8192]⟩
abbrev S512x256 : Shape := ⟨2, ![512, 256]⟩
abbrev S1 : Shape := ⟨1, ![1]⟩

abbrev nBuf : Space → Nat
  | .hbm => 3
  | .vmem => 3
  | .smem => 0
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S8192x256, .f32⟩
  | .local _ .vmem, ⟨0, _⟩ => ⟨S8192x256, .f32⟩
  | .local _ .vmem, ⟨1, _⟩ => ⟨S8192x256, .f32⟩
  | .local _ .vmem, ⟨2, _⟩ => ⟨S2x512x8192, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => true
  | ⟨1, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v40 : BitVec 32 := Scalar.muli v2 c512_i32
  let v41 : Index := Scalar.indexCast v40
  let c0_30 : Index := 0#32
  ![v41.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_35 : BitVec 32 := 1#32
  let v43 : BitVec 32 := Scalar.muli v25 c1_i32_35
  let v44 : BitVec 32 := Scalar.addi c0_i32_36 v43
  v44.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_61 : BitVec 32 := 1#32
  let v67 : BitVec 32 := Scalar.muli v14 c1_i32_61
  let v68 : BitVec 32 := Scalar.addi c0_i32_62 v67
  v68.toNat
def k0_off2 (d0 : Dev nD) (c0_i32_63 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.subi v2 c0_i32_63
  let c1_i32_64 : BitVec 32 := 1#32
  let v70 : BitVec 32 := Scalar.subi v69 c1_i32_64
  let c16_i32_65 : BitVec 32 := 16#32
  let v71 : BitVec 32 := Scalar.addi v70 c16_i32_65
  let c16_i32_66 : BitVec 32 := 16#32
  let c0_i32_67 : BitVec 32 := 0#32
  let v72 : BitVec 1 := Scalar.cmpi .eq c16_i32_66 c0_i32_67
  let c1_i32_68 : BitVec 32 := 1#32
  let v73 : BitVec 32 := Scalar.select v72 c1_i32_68 c16_i32_66
  let v74 : BitVec 32 := Scalar.remsi v71 v73
  let c0_i32_70 : BitVec 32 := 0#32
  let v76 : BitVec 1 := Scalar.cmpi .slt v74 c0_i32_70
  let c0_i32_71 : BitVec 32 := 0#32
  let v77 : BitVec 1 := Scalar.cmpi .slt v73 c0_i32_71
  let v78 : BitVec 1 := Scalar.xori v76 v77
  let c0_i32_69 : BitVec 32 := 0#32
  let v75 : BitVec 1 := Scalar.cmpi .ne v74 c0_i32_69
  let v79 : BitVec 1 := Scalar.andi v78 v75
  let v80 : BitVec 32 := Scalar.addi v74 v73
  let v81 : BitVec 32 := Scalar.select v79 v80 v74
  let c512_i32_77 : BitVec 32 := 512#32
  let v87 : BitVec 32 := Scalar.muli v81 c512_i32_77
  let v88 : Index := Scalar.indexCast v87
  let c0_78 : Index := 0#32
  ![v88.toNat, 0]
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_85 : BitVec 32 := 1#32
  let v90 : BitVec 32 := Scalar.muli v25 c1_i32_85
  let v91 : BitVec 32 := Scalar.addi c0_i32_86 v90
  v91.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_111 : BitVec 32 := 1#32
  let v114 : BitVec 32 := Scalar.muli v14 c1_i32_111
  let v115 : BitVec 32 := Scalar.addi c0_i32_112 v114
  v115.toNat
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_136 : BitVec 32 := 1#32
  let v137 : BitVec 32 := Scalar.muli v25 c1_i32_136
  let v138 : BitVec 32 := Scalar.addi c0_i32_137 v137
  v138.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_162 : BitVec 32 := 1#32
  let v161 : BitVec 32 := Scalar.muli v14 c1_i32_162
  let v162 : BitVec 32 := Scalar.addi c0_i32_163 v161
  v162.toNat
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_187 : BitVec 32 := 1#32
  let v184 : BitVec 32 := Scalar.muli v25 c1_i32_187
  let v185 : BitVec 32 := Scalar.addi c0_i32_188 v184
  v185.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_213 : BitVec 32 := 1#32
  let v208 : BitVec 32 := Scalar.muli v14 c1_i32_213
  let v209 : BitVec 32 := Scalar.addi c0_i32_214 v208
  v209.toNat
def k0_dev11 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_237 : BitVec 32 := 1#32
  let v231 : BitVec 32 := Scalar.muli v25 c1_i32_237
  let v232 : BitVec 32 := Scalar.addi c0_i32_238 v231
  v232.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_263 : BitVec 32 := 1#32
  let v255 : BitVec 32 := Scalar.muli v14 c1_i32_263
  let v256 : BitVec 32 := Scalar.addi c0_i32_264 v255
  v256.toNat
def k0_dev13 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_287 : BitVec 32 := 1#32
  let v278 : BitVec 32 := Scalar.muli v25 c1_i32_287
  let v279 : BitVec 32 := Scalar.addi c0_i32_288 v278
  v279.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_313 : BitVec 32 := 1#32
  let v302 : BitVec 32 := Scalar.muli v14 c1_i32_313
  let v303 : BitVec 32 := Scalar.addi c0_i32_314 v302
  v303.toNat
def k0_dev15 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_337 : BitVec 32 := 1#32
  let v325 : BitVec 32 := Scalar.muli v25 c1_i32_337
  let v326 : BitVec 32 := Scalar.addi c0_i32_338 v325
  v326.toNat
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_363 : BitVec 32 := 1#32
  let v349 : BitVec 32 := Scalar.muli v14 c1_i32_363
  let v350 : BitVec 32 := Scalar.addi c0_i32_364 v349
  v350.toNat
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_387 : BitVec 32 := 1#32
  let v372 : BitVec 32 := Scalar.muli v25 c1_i32_387
  let v373 : BitVec 32 := Scalar.addi c0_i32_388 v372
  v373.toNat
def k0_dev18 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_413 : BitVec 32 := 1#32
  let v396 : BitVec 32 := Scalar.muli v14 c1_i32_413
  let v397 : BitVec 32 := Scalar.addi c0_i32_414 v396
  v397.toNat
def k0_dev19 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_437 : BitVec 32 := 1#32
  let v419 : BitVec 32 := Scalar.muli v25 c1_i32_437
  let v420 : BitVec 32 := Scalar.addi c0_i32_438 v419
  v420.toNat
def k0_dev20 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_463 : BitVec 32 := 1#32
  let v443 : BitVec 32 := Scalar.muli v14 c1_i32_463
  let v444 : BitVec 32 := Scalar.addi c0_i32_464 v443
  v444.toNat
def k0_dev21 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_487 : BitVec 32 := 1#32
  let v466 : BitVec 32 := Scalar.muli v25 c1_i32_487
  let v467 : BitVec 32 := Scalar.addi c0_i32_488 v466
  v467.toNat
def k0_dev22 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_513 : BitVec 32 := 1#32
  let v490 : BitVec 32 := Scalar.muli v14 c1_i32_513
  let v491 : BitVec 32 := Scalar.addi c0_i32_514 v490
  v491.toNat
def k0_dev23 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_537 : BitVec 32 := 1#32
  let v513 : BitVec 32 := Scalar.muli v25 c1_i32_537
  let v514 : BitVec 32 := Scalar.addi c0_i32_538 v513
  v514.toNat
def k0_dev24 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_563 : BitVec 32 := 1#32
  let v537 : BitVec 32 := Scalar.muli v14 c1_i32_563
  let v538 : BitVec 32 := Scalar.addi c0_i32_564 v537
  v538.toNat
def k0_dev25 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_587 : BitVec 32 := 1#32
  let v560 : BitVec 32 := Scalar.muli v25 c1_i32_587
  let v561 : BitVec 32 := Scalar.addi c0_i32_588 v560
  v561.toNat
def k0_dev26 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_613 : BitVec 32 := 1#32
  let v584 : BitVec 32 := Scalar.muli v14 c1_i32_613
  let v585 : BitVec 32 := Scalar.addi c0_i32_614 v584
  v585.toNat
def k0_dev27 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_637 : BitVec 32 := 1#32
  let v607 : BitVec 32 := Scalar.muli v25 c1_i32_637
  let v608 : BitVec 32 := Scalar.addi c0_i32_638 v607
  v608.toNat
def k0_dev28 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_663 : BitVec 32 := 1#32
  let v631 : BitVec 32 := Scalar.muli v14 c1_i32_663
  let v632 : BitVec 32 := Scalar.addi c0_i32_664 v631
  v632.toNat
def k0_dev29 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_687 : BitVec 32 := 1#32
  let v654 : BitVec 32 := Scalar.muli v25 c1_i32_687
  let v655 : BitVec 32 := Scalar.addi c0_i32_688 v654
  v655.toNat
def k0_dev30 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_713 : BitVec 32 := 1#32
  let v678 : BitVec 32 := Scalar.muli v14 c1_i32_713
  let v679 : BitVec 32 := Scalar.addi c0_i32_714 v678
  v679.toNat
def k0_dev31 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_737 : BitVec 32 := 1#32
  let v701 : BitVec 32 := Scalar.muli v25 c1_i32_737
  let v702 : BitVec 32 := Scalar.addi c0_i32_738 v701
  v702.toNat
def k0_dev32 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_763 : BitVec 32 := 1#32
  let v725 : BitVec 32 := Scalar.muli v14 c1_i32_763
  let v726 : BitVec 32 := Scalar.addi c0_i32_764 v725
  v726.toNat
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
  The kernel body as it was written: an entry (the handshake with both neighbours, the copy of the own block into slot 0,
  the first product) and fifteen equal hops. The printed body is this text unrolled, so the equation is one unfolding; from
  here on a hop is reasoned about once, at a symbolic step number.
-/
module

public import proofs.«01_k».proof.Proof.Gen.KernelIdeal.Skeleton
public import proofs.«01_k».proof.Proof.Gen.KernelIdeal.Launch
public import Idealize.ShloMosaic.Lib.Tactic

@[expose] public section

noncomputable section

namespace Cert.RingMatmul

open Cert.KernelIdeal Cert.KernelIdeal.Gen
open Idealize.ShloMosaic Idealize.SL.Sem

variable {F : FTy → Type} [FloatOps F]

/-- The buffers and semaphores the body is called with: the device's block of `x` (in place), the staged block of `w`, the
    staged result, the two-slot travelling buffer. -/
abbrev xM : Memref sig .tc .hbm S512x8192 .f32 := Memref.whole main_arg0
abbrev wM : Memref sig .tc .vmem S8192x256 .f32 := Memref.whole cc0_stg0_0
abbrev oM : Memref sig .tc .vmem S8192x256 .f32 := Memref.whole cc0_stg1_0
abbrev bM : Memref sig .tc .vmem S2x512x8192 .f32 := Memref.whole cc0_scratch0

/-- Where slot `b` starts in the travelling buffer. -/
def slotOff (b : Bool) : Fin 3 → ℕ := ![b.toNat, 0, 0]
theorem slotOff_inb (b : Bool) : ∀ a, slotOff b a + S1x512x8192.size a ≤ S2x512x8192.size a := by
  cases b
  · exact inb_S2x512x8192_S1x512x8192_0_0_0
  · exact inb_S2x512x8192_S1x512x8192_1_0_0
/-- Slot `b` as a rectangle of the travelling buffer, -/
abbrev slotR (b : Bool) : Rect S2x512x8192 := Rect.unit (s := S2x512x8192) (slotOff b) S1x512x8192.size (slotOff_inb b)
/-- and as the memref a transfer names. -/
def slotM (b : Bool) : Memref sig .tc .vmem S512x8192 .f32 :=
  (bM.slice (slotR b) (fun _ => rfl)).squeeze S512x8192 squeezes_S1x512x8192_S512x8192

theorem semOff_inb (b : Bool) : ∀ a, (![b.toNat] : Fin 1 → ℕ) a + S1.size a ≤ S2.size a := by
  cases b
  · exact inb_S2_S1_0
  · exact inb_S2_S1_1
/-- The semaphore of slot `b` in an array of two. -/
def slotS (A : DmaSems sig S2) (b : Bool) : DmaSems sig S_ :=
  (A.slice (Rect.unit (s := S2) ![b.toNat] S1.size (semOff_inb b))).squeeze S_ squeezes_S1_S_

/-- The regular semaphores: the neighbours' barrier and the receipt count; -/
def barS : Sems sig S_ := SemArray.scalar (sig.barrier 0 rfl)
def ackS : Sems sig S_ := cc0_scratch3
/-- the transfers' completion semaphores: the first copy's, and per slot the outgoing and the incoming one. -/
def cpyS : DmaSems sig S_ := cc0_scratch4
def sndS (b : Bool) : DmaSems sig S_ := slotS cc0_scratch1 b
def rcvS (b : Bool) : DmaSems sig S_ := slotS cc0_scratch2 b

/-- The two neighbours as the body computes them. -/
abbrev leftOf (d : Dev nD) : Dev nD := ⟨k0_dev1 d, k0_dev1_lt d⟩
abbrev rightOf (d : Dev nD) : Dev nD := ⟨k0_dev2 d, k0_dev2_lt d⟩

/-- One block of the result: the block of `x` in the slot times the staged block of `w`. -/
def prod (v : Vec F S1x512x8192 .f32) (w : Vec F S8192x256 .f32) : FVec F S512x256 .f32 := k0_pay2 v w

/-- The whole of the staged `w` as a rectangle, -/
abbrev wR : Rect S8192x256 := Rect.unit (s := S8192x256) ![0, 0] S8192x256.size inb_S8192x256_S8192x256_0_0
/-- and the result rows written at entry and at hop `h`. -/
abbrev outR₀ (d : Dev nD) : Rect S8192x256 := Rect.unit (s := S8192x256) (k0_off1 d) S512x256.size (k0_off1_inb d)
abbrev outR (d : Dev nD) (h : Fin 15) : Rect S8192x256 :=
  Rect.unit (s := S8192x256) (k0_off2 d (BitVec.ofNat 32 h.val)) S512x256.size (k0_off2_inb d h)

/-- Multiply the block in slot `b` by `w` and write the product to rows `R` of the result. -/
def stripe (b : Bool) (off : Fin 2 → ℕ) (inb : ∀ a, off a + S512x256.size a ≤ S8192x256.size a) :
    Prog (TpuEff nD τ sig (Elt F) Λ₀ .tc) PUnit :=
  .op (.load bM (slotR b).toLoadRect (View.loadsAt_vmem h_S1x512x8192)) fun v =>
  .op (.load wM wR.toLoadRect (View.loadsAt_vmem h_S8192x256)) fun w =>
  .op (.load oM (Rect.unit (s := S8192x256) off S512x256.size inb).toLoadRect (View.loadsAt_vmem h_S512x256)) fun _ =>
  .op (.store oM (Rect.unit (s := S8192x256) off S512x256.size inb) (prod v w) Finset.univ
    (View.stores_vmem_bits_univ h_S512x256 rfl) (.inl rfl)) fun _ => .ret ⟨⟩

/-- The entry: tell both neighbours, hear from both, copy the own block of `x` into slot 0, write its product. -/
def enter (d : Dev nD) : Prog (TpuEff nD τ sig (Elt F) Λ₀ .tc) PUnit := do
  semSignalWord (leftOf d) barS.sem 1#32
  semSignalWord (rightOf d) barS.sem 1#32
  semWaitWord barS.sem 2#32
  Prog.lift (.enqueueDma xM (.here (slotM false)) (.dma cpyS.sem) (Memref.isWhole_whole _).wordExact ((View.wordExact_bits rfl).reshape _ _) ⟨Or.inl rfl, trivial⟩)
  Prog.lift (.waitDma2 cpyS.sem xM (slotM false) (Memref.isWhole_whole _).wordExact ((View.wordExact_bits rfl).reshape _ _))
  stripe false (k0_off1 d) (k0_off1_inb d)

/-- Hop `h`, the block in slot `b`: send it to the right neighbour's other slot, wait until it has left and until the left
    neighbour's has arrived in the own other slot, tell the left neighbour so, write the product of what arrived, and wait
    for the right neighbour's word. -/
def hop (d : Dev nD) (h : Fin 15) (b : Bool) : Prog (TpuEff nD τ sig (Elt F) Λ₀ .tc) PUnit := do
  Prog.lift (.enqueueDma (slotM b) (.remote (Dev.tc (rightOf d)) (slotM !b) (.dma (sndS b).sem)) (.dma (rcvS !b).sem)
    ((View.wordExact_bits rfl).reshape _ _) ((View.wordExact_bits rfl).reshape _ _) ⟨⟨rfl, Or.inl rfl⟩, trivial⟩)
  Prog.lift (.waitDma2 (sndS b).sem (slotM !b) (slotM b) ((View.wordExact_bits rfl).reshape _ _) ((View.wordExact_bits rfl).reshape _ _))
  Prog.lift (.waitDma2 (rcvS !b).sem (slotM b) (slotM !b) ((View.wordExact_bits rfl).reshape _ _) ((View.wordExact_bits rfl).reshape _ _))
  semSignalWord (leftOf d) ackS.sem 1#32
  stripe (!b) (k0_off2 d (BitVec.ofNat 32 h.val)) (k0_off2_inb d h)
  semWaitWord ackS.sem 1#32

/-- The `n` hops that remain, from hop `15 - n` on. -/
def hops (d : Dev nD) : (n : ℕ) → (n ≤ 15) → Bool → Prog (TpuEff nD τ sig (Elt F) Λ₀ .tc) PUnit
  | 0, _, _ => .ret ⟨⟩
  | n + 1, hn, b => do hop d ⟨14 - n, by omega⟩ b; hops d n (by omega) (!b)

/-- The body. -/
def ringBody : Prog (TpuEff nD τ sig (Elt F) Λ₀ .tc) PUnit :=
  .op .deviceId fun d => do enter d; hops d 15 (le_refl _) false

/-- The printed body, called as the launch calls it. -/
abbrev printedBody : Prog (TpuEff nD τ sig (Elt F) Λ₀ .tc) PUnit :=
  cc0_body xM (Memref.isWhole_whole _) wM (Memref.isWhole_whole _) oM (Memref.isWhole_whole _) bM (Memref.isWhole_whole _)
    cc0_scratch1 cc0_scratch2 cc0_scratch3 cc0_scratch4

set_option maxRecDepth 65536 in
set_option maxHeartbeats 4000000 in
theorem printedBody_eq : printedBody (F := F) = ringBody := by
  rfl

end Cert.RingMatmul

end
-- ==== Proof.Sched.lean ====
/-
  The protocol of the ring, stated cell by cell. Each device owns seven semaphore cells: the barrier, the receipt count,
  the first copy's, and per slot of the travelling buffer the outgoing and the incoming transfer's. A cell's duties come in
  rounds: the barrier has one round of two duties (one per neighbour), every other cell has rounds of one duty, as often as
  the fifteen hops use it. What a duty hands the cell's owner is listed in `pay`: chiefly, a slot of a neighbour that is
  free to be written (barrier, receipt) and the own slot with the block of `x` that has travelled there (arrival).
-/
module

public import proofs.«01_k».proof.Proof.Prog
public import Idealize.ShloMosaic.Lib.Pipeline.Launch

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the ring's, credit indexed by the hop -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The state at launch: any contents, every counter zero. -/
def s₀ : MemSt nD τ sig (Elt F) := ⟨m, fun _ => 0, ρ⟩

/-! ## Positions on the ring -/

/-- The right neighbour (to which a device sends) and the left one. -/
def nxt (c : Dev nD) : Dev nD := ⟨(c.val + 1) % 16, Nat.mod_lt _ (by decide)⟩
def prv (c : Dev nD) : Dev nD := ⟨(c.val + 15) % 16, Nat.mod_lt _ (by decide)⟩
/-- The device `s` places to the left. -/
def back (c : Dev nD) (s : ℕ) : Dev nD := ⟨(c.val + (16 - s)) % 16, Nat.mod_lt _ (by decide)⟩

theorem prv_nxt (c : Dev nD) : prv (nxt c) = c := by
  have hc : c.val < 16 := c.isLt; apply Fin.ext; simp only [prv, nxt]; omega
theorem nxt_prv (c : Dev nD) : nxt (prv c) = c := by
  have hc : c.val < 16 := c.isLt; apply Fin.ext; simp only [prv, nxt]; omega
theorem back_zero (c : Dev nD) : back c 0 = c := by
  have hc : c.val < 16 := c.isLt; apply Fin.ext; simp only [back]; omega
theorem back_nxt (c : Dev nD) (h : ℕ) (hh : h < 16) : back (nxt c) (h + 1) = back c h := by
  have hc : c.val < 16 := c.isLt; apply Fin.ext; simp only [back, nxt]; omega
/-- Every device lies at most fifteen places to the left. -/
theorem exists_back (c o : Dev nD) : ∃ s < 16, back c s = o := by
  have hc : c.val < 16 := c.isLt; have ho : o.val < 16 := o.isLt
  refine ⟨(c.val + (16 - o.val)) % 16, Nat.mod_lt _ (by decide), Fin.ext ?_⟩
  simp only [back]; omega
theorem back_inj (c : Dev nD) {s t : ℕ} (hs : s < 16) (ht : t < 16) (e : back c s = back c t) : s = t := by
  have hc : c.val < 16 := c.isLt; have := congrArg Fin.val e; simp only [back] at this; omega

/-- The ring as a permutation of the devices. -/
def ring : Dev nD ≃ Dev nD := ⟨nxt, prv, prv_nxt, nxt_prv⟩

set_option maxRecDepth 10000 in
theorem leftOf_eq (c : Dev nD) : leftOf c = prv c := by revert c; decide +kernel
set_option maxRecDepth 10000 in
theorem rightOf_eq (c : Dev nD) : rightOf c = nxt c := by revert c; decide +kernel
theorem outOff₀_eq (c : Dev nD) : k0_off1 c = ![512 * (back c 0).val, 0] := by rw [k0_off1_eq, back_zero]
set_option maxRecDepth 10000 in
theorem outOff_eq (c : Dev nD) (h : Fin 15) :
    k0_off2 c (BitVec.ofNat 32 h.val) = ![512 * (back c (h.val + 1)).val, 0] := by revert c h; decide +kernel

/-- The slot that holds the travelling block when hop `h` starts: 0 at even hops. -/
def par (h : ℕ) : Bool := h % 2 == 1
theorem par_succ (h : ℕ) : par (h + 1) = !par h := by
  rcases Nat.mod_two_eq_zero_or_one h with e | e <;> simp [par, Nat.add_mod, e]
theorem par_toNat (h : ℕ) : (par h).toNat = h % 2 := by
  rcases Nat.mod_two_eq_zero_or_one h with e | e <;> simp [par, e]

/-! ## Cells -/

/-- The seven cells of a device. -/
inductive K
  | bar | ack | cpy
  | snd (b : Bool) | rcv (b : Bool)
  deriving DecidableEq

def K.all : List K := [.bar, .ack, .cpy, .snd false, .snd true, .rcv false, .rcv true]
theorem K.mem_all (k : K) : k ∈ K.all := by
  rcases k with _ | _ | _ | ⟨_ | _⟩ | ⟨_ | _⟩ <;> decide
instance : Fintype K := ⟨K.all.toFinset, fun k => List.mem_toFinset.mpr k.mem_all⟩

/-- The semaphore of a kind of cell, -/
def csem : K → SemLoc sig
  | .bar => .reg barS.sem
  | .ack => .reg ackS.sem
  | .cpy => .dma cpyS.sem
  | .snd b => .dma (sndS b).sem
  | .rcv b => .dma (rcvS b).sem
theorem csem_injective : Function.Injective csem := by
  intro k k'
  revert k'; revert k; decide
/-- the kind of a semaphore, where it is one of the seven, -/
def kindOf (sm : SemLoc sig) : Option K := K.all.find? fun k => csem k = sm
theorem kindOf_csem (k : K) : kindOf (csem k) = some k := by
  revert k; decide
/-- and a device's cell of a kind. -/
abbrev kcell (c : Dev nD) (k : K) : GSem nD τ sig := ((c : Thread nD τ), csem k)

theorem kcell_inj {c c' : Dev nD} {k k' : K} (h : kcell c k = kcell c' k') : c = c' ∧ k = k' :=
  ⟨congrArg (fun g : GSem nD τ sig => g.1.1) h, csem_injective (congrArg Prod.snd h)⟩

/-- What one transfer of a block credits. -/
@[irreducible] def N : ℕ := (slotM false).view.dmaCredit
theorem N_pos : 0 < N := by
  unfold N
  exact View.dmaCredit_pos _ (Shape.numel_pos (by decide))
theorem credit_slot (b : Bool) : (slotM b).view.dmaCredit = N := by
  unfold N
  cases b <;> rfl

/-! ## What the buffers hold -/

/-- Device `o`'s block of `x`, -/
def xblk (o : Dev nD) : S512x8192.Idx → Elt F .f32 := m ((o : Thread nD τ).loc main_arg0)

/-- Slot `b` of device `c`, at contents that read `X` through it; at any contents. -/
def slotHas (c : Dev nD) (b : Bool) (X : S512x8192.Idx → Elt F .f32) : sProp 𝕄 :=
  owns (c : Thread nD τ) (slotM b) fullShare X
def slotFree (c : Dev nD) (b : Bool) : sProp 𝕄 :=
  iprop(∃ f, (slotM b).view.loc (c : Thread nD τ) ↦[(slotM b).view.set]{fullShare} f)
/-- The array `x` of device `c`. -/
def xHeld (c : Dev nD) : sProp 𝕄 := (c : Thread nD τ).loc main_arg0 ↦{fullShare} m ((c : Thread nD τ).loc main_arg0)

omit [FloatOps F] in
theorem slotHas_free (c : Dev nD) (b : Bool) (X : S512x8192.Idx → Elt F .f32) : slotHas c b X ⊢ slotFree c b := by
  unfold slotHas slotFree owns
  iintro ⟨%f, -, H⟩
  iexists f; iexact H

omit [FloatOps F] in
instance slotFree_storable (c : Dev nD) (b : Bool) : BI.Storable (upEmb : UEmb _ 𝕄) (slotFree (F := F) c b) := by
  unfold slotFree; infer_instance
omit [FloatOps F] in
instance slotHas_storable (c : Dev nD) (b : Bool) (X : S512x8192.Idx → Elt F .f32) :
    BI.Storable (upEmb : UEmb _ 𝕄) (slotHas (F := F) c b X) := by
  unfold slotHas; infer_instance
omit [FloatOps F] in
instance xHeld_storable (c : Dev nD) : BI.Storable (upEmb : UEmb _ 𝕄) (xHeld (F := F) m c) := by
  unfold xHeld; infer_instance

/-- What device `c` needs of its right neighbour to make hop `h` from slot `b`: the slot it writes there, and that the
    neighbour has come to the round of its arrival cell which that hop pays. -/
def lend (c : Dev nD) (h : ℕ) (b : Bool) : sProp 𝕄 :=
  iprop(slotFree (nxt c) (!b) ∗ reached ER (kcell (nxt c) (.rcv (!b))) (h / 2))

omit [FloatOps F] in
instance lend_storable (c : Dev nD) (h : ℕ) (b : Bool) : BI.Storable (upEmb : UEmb _ 𝕄) (lend (F := F) c h b) := by
  unfold lend; infer_instance

/-! ## The schedule -/

/-- How many rounds a kind of cell has, -/
def rounds : K → ℕ
  | .bar => 1 | .ack => 15 | .cpy => 1 | .snd b => bif b then 7 else 8 | .rcv b => bif b then 8 else 7
/-- who pays in a round, -/
def payers : K → Finset Bool
  | .bar => Finset.univ | .ack => {false} | .cpy => {false} | .snd _ => {false} | .rcv _ => {false}
/-- how much each, -/
def worth : K → ℕ
  | .bar => 1 | .ack => 1 | .cpy => N | .snd _ => N | .rcv _ => N
/-- and with what. A slot's outgoing cell hands the block sent back, its incoming cell the block that came, with the
    word that its sender has come to the receipt round that answers it; hop `2r` uses
    the outgoing cell of slot 0 and the incoming one of slot 1 in their round `r`, hop `2r + 1` the other two. -/
def pay (c : Dev nD) : K → ℕ → Bool → sProp 𝕄
  | .bar, _, d => bif d then lend c 0 false else iprop(emp)
  | .ack, h, _ => if h < 14 then lend c (h + 1) (par (h + 1)) else iprop(emp)
  | .cpy, _, _ => iprop(slotHas c false (xblk m c) ∗ xHeld m c)
  | .snd b, r, _ => slotHas c b (xblk m (back c (2 * r + b.toNat)))
  | .rcv b, r, _ => iprop(slotHas c b (xblk m (back c (2 * r + (!b).toNat + 1))) ∗ reached ER (kcell (prv c) .ack) (2 * r + (!b).toNat))

theorem worth_pos (k : K) : 0 < worth k := by
  match k with
  | .bar => exact Nat.one_pos
  | .ack => exact Nat.one_pos
  | .cpy => exact N_pos
  | .snd _ => exact N_pos
  | .rcv _ => exact N_pos

instance pay_storable (c : Dev nD) (k : K) (r : ℕ) (d : Bool) : BI.Storable (upEmb : UEmb _ 𝕄) (pay (F := F) m c k r d) := by
  cases k
  case bar => cases d <;> (unfold pay; dsimp only [cond]; infer_instance)
  case ack => unfold pay; dsimp only; split <;> infer_instance
  all_goals (unfold pay; infer_instance)

/-- The ring's schedule over the machine's cells. -/
def Rd : Rounds.Schedule (GSem nD τ sig) Bool 𝕄 where
  duties g r := if g.1.2 = .tc then (match kindOf g.2 with | some k => if r < rounds k then payers k else ∅ | none => ∅) else ∅
  unitless _ := False
  amount g _ _ := match kindOf g.2 with | some k => worth k | none => 1
  payload g r d := match kindOf g.2 with | some k => pay m g.1.1 k r d | none => iprop(emp)
  amount_pos g _ _ _ := by
    split
    · exact worth_pos _
    · exact Nat.one_pos

instance Rd_payload_storable (g : GSem nD τ sig) (r : ℕ) (d : Bool) :
    BI.Storable (upEmb : UEmb _ 𝕄) ((Rd (F := F) m).payload g r d) := by
  unfold Rd; dsimp only
  split <;> infer_instance

omit [FloatOps F] in
theorem duties_eq (c : Dev nD) (k : K) (r : ℕ) : (Rd (F := F) m).duties (kcell c k) r = if r < rounds k then payers k else ∅ := by
  dsimp only [Rd]; rw [if_pos rfl, kindOf_csem]
omit [FloatOps F] in
theorem amount_eq (c : Dev nD) (k : K) (r : ℕ) (d : Bool) : (Rd (F := F) m).amount (kcell c k) r d = worth k := by
  dsimp only [Rd]; rw [kindOf_csem]
omit [FloatOps F] in
theorem payload_eq (c : Dev nD) (k : K) (r : ℕ) (d : Bool) : (Rd (F := F) m).payload (kcell c k) r d = pay m c k r d := by
  dsimp only [Rd]; rw [kindOf_csem]
omit [FloatOps F] in
/-- A duty is in its round. -/
theorem mem_duties (c : Dev nD) (k : K) (r : ℕ) (d : Bool) (hr : r < rounds k) (hd : d ∈ payers k) :
    d ∈ (Rd (F := F) m).duties (kcell c k) r := by
  rw [duties_eq, if_pos hr]; exact hd
omit [FloatOps F] in
/-- Past its last round a cell has no duty. -/
theorem duties_past (c : Dev nD) (k : K) : ∀ r, rounds k ≤ r → (Rd (F := F) m).duties (kcell c k) r = ∅ :=
  fun r hr => by rw [duties_eq, if_neg (Nat.not_lt.mpr hr)]
omit [FloatOps F] in
/-- A round is worth its payers' parts. -/
theorem expect_eq (c : Dev nD) (k : K) (r : ℕ) (hr : r < rounds k) :
    (Rd (F := F) m).expect (kcell c k) r = (payers k).card * worth k := by
  unfold Schedule.expect Schedule.amountOf
  rw [duties_eq, if_pos hr, Finset.sum_congr rfl fun d _ => amount_eq m c k r d, Finset.sum_const, smul_eq_mul]
omit [FloatOps F] in
/-- The payload of a round with one payer. -/
theorem rest_one (c : Dev nD) (k : K) (r : ℕ) (hr : r < rounds k) (hk : payers k = {false}) :
    bigSep ((Rd (F := F) m).duties (kcell c k) r \ ∅) (fun d => (Rd (F := F) m).payload (kcell c k) r d) = pay m c k r false := by
  rw [Finset.sdiff_empty, duties_eq, if_pos hr, hk, bigSep_singleton, payload_eq]
omit [FloatOps F] in
/-- The payload of the barrier's round. -/
theorem rest_bar (c : Dev nD) :
    bigSep ((Rd (F := F) m).duties (kcell c .bar) 0 \ ∅) (fun d => (Rd (F := F) m).payload (kcell c .bar) 0 d)
      = iprop(emp ∗ lend c 0 false) := by
  rw [Finset.sdiff_empty, duties_eq, if_pos (show 0 < rounds .bar from Nat.one_pos), show payers .bar = {false, true} by decide,
    BI.bigSep_insert (by decide), bigSep_singleton, payload_eq, payload_eq]
  rfl

end Cert.RingMatmul

end
-- ==== Proof.Owe.lean ====
/-
  What each device owes and is owed, hop by hop, and why no wait can close a circle: hop `h` owes its left neighbour one
  receipt and its right neighbour one block, each tagged with `h`; the levels grow with the tag, so a device that waits in
  hop `h` owes only what stands above that wait.
-/
module

public import proofs.«01_k».proof.Proof.Sched

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Dues -/

/-- The receipt and the block that hop `h` owes, -/
def dueAck (c : Dev nD) (h : ℕ) : CellTallies nD τ sig ℕ := tallyAt (kcell (prv c) .ack) h 1
def dueRcv (c : Dev nD) (h : ℕ) : CellTallies nD τ sig ℕ := tallyAt (kcell (nxt c) (.rcv (!par h))) h N
/-- what the hops from `h` on owe, -/
def Rem (c : Dev nD) (h : ℕ) : CellTallies nD τ sig ℕ := ∑ i ∈ Finset.Ico h 15, (dueAck c i + dueRcv c i)
/-- and what a device owes at launch: one unit to each neighbour's barrier besides. -/
def O₀ (c : Dev nD) : CellTallies nD τ sig ℕ :=
  (Rem c 0 + tallyAt (kcell (nxt c) .bar) 0 1) + tallyAt (kcell (prv c) .bar) 0 1

theorem Rem_succ (c : Dev nD) (h : ℕ) (hh : h < 15) : Rem c h = (Rem c (h + 1) + dueAck c h) + dueRcv c h := by
  unfold Rem
  rw [show Finset.Ico h 15 = insert h (Finset.Ico (h + 1) 15) by ext i; simp only [Finset.mem_Ico, Finset.mem_insert]; omega,
    Finset.sum_insert (by rw [Finset.mem_Ico]; omega), add_comm, add_assoc]
theorem Rem_end (c : Dev nD) : Rem c 15 = 0 := by
  unfold Rem
  rw [Finset.Ico_self, Finset.sum_empty]

/-! ## Credits -/

/-- What is owed to device `c` in hop `h`, as the tokens its two waits spend. -/
def hopCred (c : Dev nD) (h : ℕ) : sProp 𝕄 :=
  iprop(cred (tallyAt (kcell c .ack) h 1) ∗ cred (tallyAt (kcell c (.rcv (!par h))) h N))

omit [FloatOps F] in
theorem hopCred_dealt (c : Dev nD) (h : ℕ) : (Pipeline.launchCred (fun d => dueAck d h + dueRcv d h) c : sProp 𝕄) ⊢ hopCred c h := by
  unfold dueAck dueRcv hopCred
  rw [Pipeline.launchCred_add]
  exact BI.sep_mono (Pipeline.launchCred_tallyAt (csem .ack) prv nxt prv_nxt nxt_prv h 1 c)
    (Pipeline.launchCred_tallyAt (csem (.rcv (!par h))) nxt prv nxt_prv prv_nxt h N c)

omit [FloatOps F] in
/-- The launch deals every device its barrier's two units and its fifteen hops' credits. -/
theorem creds (c : Dev nD) :
    (Pipeline.launchCred O₀ c : sProp 𝕄) ⊢ iprop(bigSep (Finset.Ico 0 15) (hopCred c) ∗ cred (tallyAt (kcell c .bar) 0 2)) := by
  unfold O₀ Rem
  rw [Pipeline.launchCred_add, Pipeline.launchCred_add, Pipeline.launchCred_sum]
  iintro ⟨⟨H, H1⟩, H2⟩
  ihave G1 := (Pipeline.launchCred_tallyAt (csem .bar) nxt prv nxt_prv prv_nxt 0 1 c) $$ H1
  ihave G2 := (Pipeline.launchCred_tallyAt (csem .bar) prv nxt prv_nxt nxt_prv 0 1 c) $$ H2
  isplitl [H]
  · iapply (show (bigSep (Finset.Ico 0 15) fun h => Pipeline.launchCred (fun d => dueAck d h + dueRcv d h) c : sProp 𝕄)
      ⊢ bigSep (Finset.Ico 0 15) (hopCred c) from bigSep_mono fun h _ => hopCred_dealt c h)
    iexact H
  · rw [show (2 : ℕ) = 1 + 1 from rfl, ← tallyAt_add]
    iapply (cred_add _ _).2
    isplitl [G1] <;> iassumption

/-! ## Levels -/

/-- The tags with a level, -/
def L (g : GSem nD τ sig) : Finset ℕ := if g.1.2 = .tc then Finset.range 16 else ∅
/-- and the levels: the barrier first, then per hop the block and the receipt; all other cells at the bottom. -/
def klev : K → ℕ → ℕ
  | .bar, _ => 1
  | .rcv _, h => 2 * h + 2
  | .ack, h => 2 * h + 3
  | .cpy, _ => 0
  | .snd _, _ => 0
def lv (g : GSem nD τ sig) (h : ℕ) : ℕ := match kindOf g.2 with | some k => klev k h | none => 0

theorem L_of_ne (g : GSem nD τ sig) (h : g.1.2 ≠ .tc) : L g = ∅ := if_neg h
theorem lv_eq (c : Dev nD) (k : K) (h : ℕ) : lv (kcell c k) h = klev k h := by
  unfold lv; rw [kindOf_csem]

/-- Every due in `O` stands above level `x`. -/
def Above (x : ℕ) (O : CellTallies nD τ sig ℕ) : Prop := ∀ g i, 0 < O g i → i ∈ L g ∧ x < lv g i

theorem Above.add {x : ℕ} {O P : CellTallies nD τ sig ℕ} (hO : Above x O) (hP : Above x P) : Above x (O + P) := fun g i h => by
  rw [Pi.add_apply, Finsupp.add_apply] at h
  rcases Nat.eq_zero_or_pos (O g i) with e | e
  · exact hP g i (by omega)
  · exact hO g i e
theorem Above.zero (x : ℕ) : Above x 0 := fun _ _ h => absurd h (Nat.lt_irrefl 0)
theorem Above.one {x : ℕ} {c : Dev nD} {k : K} {h n : ℕ} (hh : h < 16) (hx : x < klev k h) : Above x (tallyAt (kcell c k) h n) := fun g i hp => by
  obtain ⟨rfl, rfl⟩ := Pipeline.tallyAt_pos hp
  exact ⟨by rw [L, if_pos rfl]; exact Finset.mem_range.mpr hh, by rw [lv_eq]; exact hx⟩
theorem Above.rem {x : ℕ} (c : Dev nD) : ∀ n h : ℕ, n + h = 15 → x < 2 * h + 2 → Above x (Rem c h)
  | 0, h, hn, _ => by
    obtain rfl : h = 15 := by omega
    rw [Rem_end]; exact Above.zero x
  | n + 1, h, hn, hx => by
    rw [Rem_succ c h (by omega)]
    exact ((Above.rem c n (h + 1) (by omega) (by omega)).add (Above.one (by omega) (by show x < 2 * h + 3; omega))).add (Above.one (by omega) hx)

/-- What is owed once hop `h`'s block is on its way stands above the waits for it. -/
theorem Above.sent {x : ℕ} (c : Dev nD) {h : ℕ} (hh : h < 15) (hx : x < 2 * h + 3) : Above x (Rem c (h + 1) + dueAck c h) :=
  (Above.rem c (14 - h) (h + 1) (by omega) (by omega)).add (Above.one (by omega) hx)

/-- That the levels are these. -/
def lvls : sProp 𝕄 := levAts L lv
instance lvls_persistent : BI.Persistent (lvls (F := F)) := by unfold lvls; infer_instance

omit [FloatOps F] in
/-- A wait below every due is allowed. -/
theorem mayWait {c : Dev nD} {sm : SemLoc sig} {i x : ℕ} {O : CellTallies nD τ sig ℕ} (hi : i < 16) (hl : lv ((c : Thread nD τ), sm) i ≤ x)
    (hO : Above x O) : lvls (F := F) ⊢ MayWait (c : Thread nD τ) sm i O :=
  MayOwe.of_cut x (fun p hp => by rw [Finset.mem_singleton.mp hp, L, if_pos rfl]; exact Finset.mem_range.mpr hi) (fun g j h => (hO g j h).1)
    (fun p hp => by rw [Finset.mem_singleton.mp hp]; exact hl) (fun g j h => (hO g j h).2)

end Cert.RingMatmul

end
-- ==== Proof.Rows.lean ====
/-
  What the body computes: the product of a block of `x` with the device's `w`, and the result rows as they fill up, one
  stripe of 512 rows per block. `tile` is the product as the body forms it; `Rows c n` says that the stripes of the `n`
  blocks that have been at device `c` are in place.
-/
module

public import proofs.«01_k».proof.Proof.Owe
public import Idealize.ShloMosaic.Lib.Ring

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## Stripes of the result -/

theorem row_inb (o : Dev nD) : ∀ a, (![512 * o.val, 0] : Fin 2 → ℕ) a + S512x256.size a ≤ S8192x256.size a := by
  have ho : o.val < 16 := o.isLt
  intro a; fin_cases a
  · show 512 * o.val + 512 ≤ 8192; omega
  · show 0 + 256 ≤ 256; omega
/-- The rows of device `o`'s block, -/
abbrev rowR (o : Dev nD) : Rect S8192x256 := Rect.unit (s := S8192x256) ![512 * o.val, 0] S512x256.size (row_inb o)
/-- and an index of the stripe as an index of the result. -/
abbrev rowIdx (o : Dev nD) (j : S512x256.Idx) : S8192x256.Idx := (rowR o).emb j

theorem rowIdx_zero (o : Dev nD) (j : S512x256.Idx) : (rowIdx o j 0).val = 512 * o.val + (j 0).val := by
  rw [rowIdx, Rect.emb_apply]; show 512 * o.val + 1 * (j 0).val = _; omega
theorem rowIdx_one (o : Dev nD) (j : S512x256.Idx) : (rowIdx o j 1).val = (j 1).val := by
  rw [rowIdx, Rect.emb_apply]; show 0 + 1 * (j 1).val = _; omega

/-- Different devices' stripes do not meet. -/
theorem rowIdx_off {o o' : Dev nD} (h : o ≠ o') (j : S512x256.Idx) : rowIdx o j ∉ (rowR o').set := fun hm => by
  have h0 := (Rect.mem_set_unit.mp hm) 0
  rw [rowIdx_zero] at h0
  have hj : (j 0).val < 512 := (j 0).isLt
  have hlo : 512 * o'.val ≤ 512 * o.val + (j 0).val := h0.1
  have hhi : 512 * o.val + (j 0).val < 512 * o'.val + 512 := h0.2
  exact h (Fin.ext (by omega))

/-- The device whose stripe an index lies in, and its place there. -/
def stripeOf (i : S8192x256.Idx) : Dev nD := ⟨(i 0).val / 512, Nat.div_lt_of_lt_mul (show (i 0).val < 512 * 16 from (i 0).isLt)⟩
def inStripe (i : S8192x256.Idx) : S512x256.Idx := fun a => match a with
  | ⟨0, _⟩ => ⟨(i 0).val % 512, Nat.mod_lt _ (by decide)⟩
  | ⟨1, _⟩ => ⟨(i 1).val, (i 1).isLt⟩
theorem rowIdx_stripe (i : S8192x256.Idx) : rowIdx (stripeOf i) (inStripe i) = i := by
  funext a
  fin_cases a
  · apply Fin.ext
    show (rowIdx (stripeOf i) (inStripe i) 0).val = (i 0).val
    rw [rowIdx_zero]
    show 512 * ((i 0).val / 512) + (i 0).val % 512 = _
    omega
  · apply Fin.ext
    show (rowIdx (stripeOf i) (inStripe i) 1).val = (i 1).val
    rw [rowIdx_one]
    rfl

/-! ## The product -/

/-- A block of `x` times `w`. -/
def tile (X : S512x8192.Idx → Elt F .f32) (w : S8192x256.Idx → Elt F .f32) : FVec F S512x256 .f32 :=
  matmul dot_S512x8192_S8192x256_S512x256_1_0_0_1_n_n none (show FVec F S512x8192 .f32 from X)
    (shapeCast S8192x256 (show FVec F S8192x256 .f32 from w) shapeCasts_S8192x256_S8192x256) (constant S512x256 .f32 0x00000000#32)

/-- What the body multiplies is what the slot reads. -/
theorem prod_eq (b : Bool) (f : bM.view.ty.Contents (Elt F)) (w : S8192x256.Idx → Elt F .f32) :
    prod (bM.view.readAt (Elt F) (slotR b).toLoadRect f) w = tile ((slotM b).view.read (Elt F) f) w := rfl

/-- The whole result of device `c`, -/
def outOf (w : S8192x256.Idx → Elt F .f32) : S8192x256.Idx → Elt F .f32 := fun i => tile (xblk m (stripeOf i)) w (inStripe i)
/-- and its stripes of the first `n` blocks on their way past `c`. -/
def Rows (c : Dev nD) (w : S8192x256.Idx → Elt F .f32) (n : ℕ) (g : S8192x256.Idx → Elt F .f32) : Prop :=
  ∀ s < n, ∀ j, g (rowIdx (back c s) j) = tile (xblk m (back c s)) w j

theorem Rows.zero (c : Dev nD) (w g : S8192x256.Idx → Elt F .f32) : Rows m c w 0 g := fun _ hs => absurd hs (Nat.not_lt_zero _)

/-- All sixteen stripes make the result. -/
theorem Rows.all {c : Dev nD} {w g : S8192x256.Idx → Elt F .f32} (h : Rows m c w 16 g) : g = outOf m w := funext fun i => by
  obtain ⟨s, hs, e⟩ := exists_back c (stripeOf i)
  have := h s hs (inStripe i)
  rw [e, rowIdx_stripe] at this
  exact this

/-- The result after one more stripe is written. -/
abbrev putRows (o : Dev nD) (g : S8192x256.Idx → Elt F .f32) (v : FVec F S512x256 .f32) : S8192x256.Idx → Elt F .f32 :=
  (oM.access (rowR o)).write (Elt F) g v Finset.univ

theorem putRows_at (o : Dev nD) (g : S8192x256.Idx → Elt F .f32) (v : FVec F S512x256 .f32) (j : S512x256.Idx) :
    putRows o g v (rowIdx o j) = v j :=
  View.write_emb_of_mem (v := oM.access (rowR o)) (Val := Elt F) g v (M := Finset.univ) (x := j) (Finset.mem_univ j)
theorem putRows_off (o : Dev nD) (g : S8192x256.Idx → Elt F .f32) (v : FVec F S512x256 .f32) {i : S8192x256.Idx} (hi : i ∉ (rowR o).set) :
    putRows o g v i = g i :=
  View.write_of_not_mem (v := oM.access (rowR o)) (Val := Elt F) g v Finset.univ (by
    rw [View.setOn_univ, View.set_slice_whole]; exact hi)

theorem Rows.put {c : Dev nD} {w g : S8192x256.Idx → Elt F .f32} {n : ℕ} (hn : n < 16) (h : Rows m c w n g) :
    Rows m c w (n + 1) (putRows (back c n) g (tile (xblk m (back c n)) w)) := fun s hs j => by
  rcases Nat.lt_succ_iff_lt_or_eq.mp hs with hlt | rfl
  · rw [putRows_off _ _ _ (rowIdx_off (fun e => absurd (back_inj c (by omega) hn e) (by omega)) j)]
    exact h s hlt j
  · exact putRows_at _ _ _ j

/-! ## A stripe, executed -/

/-- The staged `w` and the staged result of device `c`. -/
abbrev wPts (c : Dev nD) (w : S8192x256.Idx → Elt F .f32) : sProp 𝕄 := (c : Thread nD τ).loc cc0_stg0_0 ↦{fullShare} w
abbrev oPts (c : Dev nD) (g : S8192x256.Idx → Elt F .f32) : sProp 𝕄 := (c : Thread nD τ).loc cc0_stg1_0 ↦{fullShare} g

theorem slot_set (b : Bool) : (slotM b).view.set = (bM.view.setOn (slotR b).set) := by
  unfold slotM
  rw [Memref.set_view_squeeze]
  exact View.set_slice _ _

omit [FloatOps F] in
/-- A slot's holding as a part of the travelling buffer. -/
theorem slotHas_eq (c : Dev nD) (b : Bool) (X : S512x8192.Idx → Elt F .f32) :
    (slotHas c b X : sProp 𝕄) = iprop(∃ f : Buf (Elt F) (bM.view.loc (c : Thread nD τ)), ⌜(slotM b).view.read (Elt F) f = X⌝
      ∗ (bM.view.loc (c : Thread nD τ) ↦[bM.view.setOn (slotR b).set]{fullShare} f)) := by
  unfold slotHas owns
  rw [slot_set]
  rfl

theorem zero_off : (![0, 0] : Fin 2 → ℕ) = fun _ => 0 := funext fun a => by fin_cases a <;> rfl
theorem read_w (w : (cc0_stg0_0 : Ref sig .tc).ty.Contents (Elt F)) : wM.view.readAt (Elt F) wR.toLoadRect w = w :=
  Memref.readAt_unit_zero (Elt F) cc0_stg0_0 zero_off _ w

/-- With block `X` in slot `b`, a stripe writes `X`'s product to its rows and leaves all else as it was. -/
theorem wp_stripe (c o : Dev nD) (b : Bool) (off : Fin 2 → ℕ) (inb : ∀ a, off a + S512x256.size a ≤ S8192x256.size a)
    (hoff : off = ![512 * o.val, 0]) (X : S512x8192.Idx → Elt F .f32) (w g : S8192x256.Idx → Elt F .f32) (Kt : PUnit → sProp 𝕄) :
    iprop((slotHas c b X ∗ wPts c w ∗ oPts c g) ∗ ((slotHas c b X ∗ wPts c w ∗ oPts c (putRows o g (tile X w))) -∗ Kt ⟨⟩))
      ⊢ wp frame (wpE (defs₀ (F := F)) 𝒱₀ c none) Set.univ (stripe b off inb) Kt := by
  subst hoff
  unfold stripe
  rw [slotHas_eq]
  iintro ⟨⟨⟨%f, %hf, Hs⟩, Hw, Ho⟩, Hk⟩
  subst hf
  iapply (wp_load 𝒱₀ (c : Thread nD τ) none Set.univ (m := bM) (subset_refl _)) $$ Hs; iintro Hs
  iapply (wp_load 𝒱₀ (c : Thread nD τ) none Set.univ (m := wM) (Finset.subset_univ _)) $$ Hw; iintro Hw
  rw [read_w, prod_eq]
  iapply (wp_load 𝒱₀ (c : Thread nD τ) none Set.univ (m := oM) (Finset.subset_univ _)) $$ Ho; iintro Ho
  iapply (wp_store 𝒱₀ (c : Thread nD τ) none Set.univ (m := oM) (r := rowR o) (Mk := Finset.univ) (Finset.subset_univ _)) $$ Ho; iintro Ho
  rw [wp_ret]; imodintro
  iapply Hk
  isplitl [Hs]
  · iexists f; isplitr; · ipureintro; rfl
    iexact Hs
  isplitl [Hw]; · iexact Hw
  iexact Ho

end Cert.RingMatmul

end
-- ==== Proof.Hop.lean ====
/-
  One hop, executed once at a symbolic device and step. `St c w h` is what device `c` holds before hop `h`: its places in
  its cells, the tokens and credits of the hops to come, what it still owes, the block that has travelled to it, the right
  to the neighbour's slot, the staged `w`, and the result with the stripes of the blocks seen so far.
-/
module

public import proofs.«01_k».proof.Proof.Rows
public import Idealize.SL.BI.BigOpNat

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What everyone knows -/

/-- The cells' invariants under the names `Kn`, that every cell has come to its round 0, and the levels. -/
def ctx (Kn : Dev nD × K → ℕ) : sProp 𝕄 :=
  iprop((bigSep Finset.univ fun ck : Dev nD × K => cellInv ER (Rd m) (Kn ck) (kcell ck.1 ck.2))
    ∗ (bigSep Finset.univ fun ck : Dev nD × K => reached ER (kcell ck.1 ck.2) 0) ∗ lvls)

instance ctx_persistent (Kn : Dev nD × K → ℕ) : BI.Persistent (ctx m Kn) := by unfold ctx; infer_instance

variable (Kn : Dev nD × K → ℕ)

omit [FloatOps F] in
theorem ctx_inv (c : Dev nD) (k : K) : ctx m Kn ⊢ cellInv ER (Rd m) (Kn (c, k)) (kcell c k) := by
  unfold ctx
  iintro ⟨H, -⟩
  iapply (show (bigSep Finset.univ fun ck : Dev nD × K => (cellInv ER (Rd m) (Kn ck) (kcell ck.1 ck.2) : sProp 𝕄)) ⊢ cellInv ER (Rd m) (Kn (c, k)) (kcell c k)
    from bigSep_elim (Finset.mem_univ (c, k)))
  iexact H
omit [FloatOps F] in
theorem ctx_reached (c : Dev nD) (k : K) : ctx m Kn ⊢ reached ER (kcell c k) 0 := by
  unfold ctx
  iintro ⟨-, H, -⟩
  iapply (show (bigSep Finset.univ fun ck : Dev nD × K => (reached ER (kcell ck.1 ck.2) 0 : sProp 𝕄)) ⊢ reached ER (kcell c k) 0
    from bigSep_elim (Finset.mem_univ (c, k)))
  iexact H
omit [FloatOps F] in
theorem ctx_lev : ctx m Kn ⊢ lvls := by
  unfold ctx
  iintro ⟨-, -, H⟩
  iexact H

/-- A device's place in one of its cells. -/
def here (c : Dev nD) (k : K) (r : ℕ) : sProp 𝕄 := iprop(atPos ER (kcell c k) r ∅ 0 ∗ reached ER (kcell c k) r)

/-! ## Waits -/

/-- A wait for a round with one payer brings that payer's part, if the device owes nothing at or below the wait's level. -/
theorem wp_await (c : Dev nD) (k : K) (R i x : ℕ) {O : CellTallies nD τ sig ℕ} {W : Waits sig ℕ} {a : ℕ}
    {e : TpuEff nD τ sig (Elt F) Λ₀ .tc PUnit} {α : Type} {Q : α → sProp 𝕄} {kt : PUnit → Prog (TpuEff nD τ sig (Elt F) Λ₀ .tc) α}
    (hw : ∀ P : PUnit → sProp 𝕄, wpE (defs₀ (F := F)) 𝒱₀ (c : Thread nD τ) none Set.univ e P = waitSpec (c : Thread nD τ) Set.univ (csem k) a P)
    (ha : a = worth k) (hR : R < rounds k) (hk : payers k = {false}) (hi : i < 16) (hx : klev k i ≤ x) (hO : Above x O) :
    iprop(ctx m Kn ∗ cred (tallyAt (kcell c k) i (worth k)) ∗ owes (c : Thread nD τ) O W ∗ here c k R)
      ⊢ iprop(((owes (c : Thread nD τ) O (insert (csem k, i) W) ∗ here c k (R + 1) ∗ pay m c k R false)
            -∗ wp frame (wpE (defs₀ (F := F)) 𝒱₀ c none) Set.univ (kt ⟨⟩) Q)
          -∗ wp frame (wpE (defs₀ (F := F)) 𝒱₀ c none) Set.univ (.op e kt) Q) := by
  subst ha
  have hE : 0 + worth k = (Rd (F := F) m).expect (kcell c k) R := by
    rw [expect_eq m c k R hR, hk, Finset.card_singleton, Nat.one_mul, Nat.zero_add]
  have hl : lv ((c : Thread nD τ), csem k) i ≤ x := le_of_eq_of_le (lv_eq c k i) hx
  have hM1 : lvls (F := F) ⊢ MayWait (c : Thread nD τ) (csem k) i O := mayWait hi hl hO
  have hM2 : ctx m Kn ⊢ lvls := @ctx_lev F m Kn
  have hM : ctx m Kn ⊢ MayWait (c : Thread nD τ) (csem k) i O := hM2.trans hM1
  unfold here
  iintro ⟨#Hc, Hcr, HO, Hat, -⟩ Hk
  iapply (Rounds.wp_wait_rest_token 𝒱₀ ER (Rd m) (c : Thread nD τ) none (κ := Kn (c, k)) hw (Set.mem_univ _) i (O := O) (W := W) (R := R) (m := 0) (T := ∅)
    hE) $$ [Hcr HO Hat]
  · isplitr; · iapply (ctx_inv m Kn c k); iexact Hc
    isplitl [Hcr]; · iexact Hcr
    isplitl [HO]; · iexact HO
    isplitr
    · iapply hM; iexact Hc
    iexact Hat
  iintro ⟨HO, Hat, Hr, Hp⟩
  ihave Hp := (Entails.of_eq (rest_one m c k R hR hk)) $$ Hp
  iapply Hk
  isplitl [HO]; · iexact HO
  isplitl [Hat Hr]
  · isplitl [Hat] <;> iassumption
  iexact Hp

/-- The same for a wait for a block to come into slot `b` or to leave it. -/
theorem wp_await_block (c : Dev nD) (k : K) (R i x : ℕ) {O : CellTallies nD τ sig ℕ} {W : Waits sig ℕ} {sem : DmaSem sig} {sp : Space} {s : Shape} {e : EltTy}
    {src : Memref sig .tc sp s e} {b : Bool} {hsrc : src.view.WordExact} {hdst : (slotM b).view.WordExact}
    {α : Type} {Q : α → sProp 𝕄} {kt : PUnit → Prog (TpuEff nD τ sig (Elt F) Λ₀ .tc) α}
    (hs : csem k = .dma sem) (ha : N = worth k) (hR : R < rounds k) (hk : payers k = {false}) (hi : i < 16) (hx : klev k i ≤ x) (hO : Above x O) :
    iprop(ctx m Kn ∗ cred (tallyAt (kcell c k) i (worth k)) ∗ owes (c : Thread nD τ) O W ∗ here c k R)
      ⊢ iprop(((owes (c : Thread nD τ) O (insert (csem k, i) W) ∗ here c k (R + 1) ∗ pay m c k R false)
            -∗ wp frame (wpE (defs₀ (F := F)) 𝒱₀ c none) Set.univ (kt ⟨⟩) Q)
          -∗ wp frame (wpE (defs₀ (F := F)) 𝒱₀ c none) Set.univ (.op (.waitDma2 sem src (slotM b) hsrc hdst) kt) Q) :=
  wp_await m Kn c k R i x (a := (slotM b).view.dmaCredit) (fun P => by rw [hs]; exact wpE_waitDma2_eq 𝒱₀ (c : Thread nD τ) none Set.univ P)
    ((credit_slot b).trans ha) hR hk hi hx hO

/-! ## The transfer -/

theorem half_par (h : ℕ) : 2 * (h / 2) + (par h).toNat = h := by rw [par_toNat]; omega

omit [FloatOps F] in
/-- What a hop's outgoing transfer brings back when it has left, -/
theorem pay_snd (c : Dev nD) (h : ℕ) : pay m c (.snd (par h)) (h / 2) false = slotHas c (par h) (xblk m (back c h)) := by
  show slotHas c (par h) (xblk m (back c (2 * (h / 2) + (par h).toNat))) = _
  rw [half_par]
omit [FloatOps F] in
/-- and what its incoming one brings. -/
theorem pay_rcv (c : Dev nD) (h : ℕ) : pay m c (.rcv (!par h)) (h / 2) false
    = iprop(slotHas c (!par h) (xblk m (back c (h + 1))) ∗ reached ER (kcell (prv c) .ack) h) := by
  show iprop(slotHas c (!par h) (xblk m (back c (2 * (h / 2) + (!(!par h)).toNat + 1))) ∗ reached ER (kcell (prv c) .ack) (2 * (h / 2) + (!(!par h)).toNat)) = _
  rw [Bool.not_not, half_par]

theorem snd_round {h : ℕ} (hh : h < 15) : h / 2 < rounds (.snd (par h)) := by
  have := par_toNat h
  show h / 2 < bif par h then 7 else 8
  cases hp : par h <;> rw [hp] at this <;> simp only [Bool.toNat_false, Bool.toNat_true, cond_true, cond_false] at this ⊢ <;> omega
theorem rcv_round {h : ℕ} (hh : h < 15) : h / 2 < rounds (.rcv (!par h)) := by
  have := par_toNat h
  show h / 2 < bif !par h then 8 else 7
  cases hp : par h <;> rw [hp] at this <;> simp only [Bool.toNat_false, Bool.toNat_true, Bool.not_true, Bool.not_false, cond_true, cond_false] at this ⊢ <;> omega

/-- Hop `h`'s transfer: the travelling block to the right neighbour's other slot, with the word that the sender has come to
    its receipt round `h`. -/
theorem wp_pass (c n : Dev nD) (hn : n = nxt c) (h : ℕ) (hh : h < 15) {O₁ O₂ : CellTallies nD τ sig ℕ} (hO : O₁ = O₂ + dueRcv c h) (W : Waits sig ℕ)
    {hsc : (slotM (!par h) : Memref sig (Dev.tc n : Thread nD τ).2.kind .vmem S512x8192 .f32).view.ref.isScScratch = false}
    {hsrc : (slotM (par h)).view.WordExact} {hdst : (slotM (!par h)).view.WordExact}
    {hsem : DmaTarget.Typed .vmem (.dma (rcvS (!par h)).sem)
      (.remote (Dev.tc n : Thread nD τ) (slotM (!par h) : Memref sig (Dev.tc n : Thread nD τ).2.kind .vmem S512x8192 .f32) (.dma (sndS (par h)).sem) hsc)}
    {α : Type} {Q : α → sProp 𝕄} {kt : PUnit → Prog (TpuEff nD τ sig (Elt F) Λ₀ .tc) α} :
    iprop(ctx m Kn ∗ slotHas c (par h) (xblk m (back c h)) ∗ lend c h (par h) ∗ reached ER (kcell c .ack) h ∗ owes (c : Thread nD τ) O₁ W
        ∗ dutyTok ER (kcell c (.snd (par h))) (h / 2) false ∗ reached ER (kcell c (.snd (par h))) (h / 2)
        ∗ dutyTok ER (kcell (nxt c) (.rcv (!par h))) (h / 2) false)
      ⊢ iprop(((cred (tallyAt (kcell c (.snd (par h))) 0 N) ∗ owes (c : Thread nD τ) O₂ W)
            -∗ wp frame (wpE (defs₀ (F := F)) 𝒱₀ c none) Set.univ (kt ⟨⟩) Q)
          -∗ wp frame (wpE (defs₀ (F := F)) 𝒱₀ c none) Set.univ
              (.op (.enqueueDma (slotM (par h)) (.remote (Dev.tc n : Thread nD τ) (slotM (!par h)) (.dma (sndS (par h)).sem) hsc)
                (.dma (rcvS (!par h)).sem) hsrc hdst hsem) kt) Q) := by
  subst hn
  unfold lend slotFree
  rw [show slotHas c (par h) (xblk m (back c h)) = owns (c : Thread nD τ) (slotM (par h)) fullShare (xblk m (back c h)) from rfl]
  unfold owns
  iintro ⟨#Hc, ⟨%f, %hf, Hs⟩, ⟨⟨%fn, Hd⟩, #Hrd⟩, #Hra, HO, Ht1, #Hr1, Ht2⟩ Hk
  iapply (Rounds.wp_send_pointsTo_with 𝒱₀ ER (Rd m) (c : Thread nD τ) none (κ₁ := Kn (c, .snd (par h))) (κ₂ := Kn (nxt c, .rcv (!par h)))
    (c' := (nxt c : Thread nD τ)) (src := slotM (par h)) (dst := slotM (!par h)) (F := reached ER (kcell c .ack) h)
    (r₁ := h / 2) (r₂ := h / 2) (d₁ := false) (d₂ := false) (fs := f) (fd := fn)
    (mem_duties m c (.snd (par h)) (h / 2) false (snd_round hh) (Finset.mem_singleton_self _))
    (mem_duties m (nxt c) (.rcv (!par h)) (h / 2) false (rcv_round hh) (Finset.mem_singleton_self _))
    h 0 N (credit_slot _) (amount_eq m c (.snd (par h)) (h / 2) false) (amount_eq m (nxt c) (.rcv (!par h)) (h / 2) false)
    O₂ hO (W := W)
    (by
      show _ ⊢ (Rd m).payload (kcell c (.snd (par h))) (h / 2) false
      rw [payload_eq, pay_snd]; unfold slotHas owns
      iintro H; iexists f; isplitr; · ipureintro; exact hf
      iexact H)
    (by
      show _ ⊢ (Rd m).payload (kcell (nxt c) (.rcv (!par h))) (h / 2) false
      rw [payload_eq, pay_rcv, back_nxt c h (by omega), prv_nxt]; unfold slotHas owns
      iintro ⟨H, HF⟩
      isplitl [H]
      · iexists _; isplitr
        · ipureintro
          exact (View.read_write_univ (v := (slotM (!par h)).view) (Val := Elt F) fn _).trans hf
        iexact H
      iexact HF)) $$ [Hs Hd HO Ht1 Ht2]
  · isplitr; · iapply (ctx_inv m Kn c (.snd (par h))); iexact Hc
    isplitr; · iapply (ctx_inv m Kn (nxt c) (.rcv (!par h))); iexact Hc
    isplitl [Hs]; · iexact Hs
    isplitl [Hd]
    · isplitl [Hd]; · iexact Hd
      iexact Hra
    isplitl [HO]; · iexact HO
    isplitl [Ht1]; · iexact Ht1
    isplitr; · iexact Hr1
    isplitl [Ht2]; · iexact Ht2
    iexact Hrd
  iexact Hk

/-! ## The receipt -/

/-- What device `c` needs of its right neighbour before hop `h`; after the last hop, its own other slot instead. -/
def Lent (c : Dev nD) (h : ℕ) : sProp 𝕄 := if h < 15 then lend c h (par h) else slotFree c (!par h)
/-- The slot that the last receipt does not give away. -/
def kept (c : Dev nD) (h : ℕ) : sProp 𝕄 := if h < 14 then iprop(emp) else slotFree c (par h)

omit [FloatOps F] in
/-- The slot just sent from is what the left neighbour's next hop needs; -/
theorem give (c : Dev nD) (h : ℕ) (X : S512x8192.Idx → Elt F .f32) :
    iprop(slotHas c (par h) X ∗ reached ER (kcell c (.rcv (par h))) ((h + 1) / 2)) ⊢ iprop(pay m (prv c) .ack h false ∗ kept c h) := by
  unfold kept
  rw [show pay m (prv c) .ack h false = if h < 14 then lend (prv c) (h + 1) (par (h + 1)) else iprop(emp) from rfl]
  iintro ⟨Hs, Hr⟩
  ihave Hf := (slotHas_free c (par h) X) $$ Hs
  by_cases hh : h < 14
  · rw [if_pos hh, if_pos hh]
    unfold lend
    rw [par_succ, Bool.not_not, nxt_prv]
    isplitl
    · isplitl [Hf] <;> iassumption
    · iempintro
  · rw [if_neg hh, if_neg hh]
    isplitr
    · iempintro
    · iexact Hf
omit [FloatOps F] in
/-- and the right neighbour's is what the own next hop needs. -/
theorem take (c : Dev nD) (h : ℕ) (hh : h < 15) : iprop(pay m c .ack h false ∗ kept c h) ⊢ Lent c (h + 1) := by
  unfold kept Lent
  rw [show pay m c .ack h false = if h < 14 then lend c (h + 1) (par (h + 1)) else iprop(emp) from rfl]
  by_cases h14 : h < 14
  · rw [if_pos h14, if_pos h14, if_pos (by omega)]
    iintro ⟨H, -⟩; iexact H
  · rw [if_neg h14, if_neg h14, if_neg (by omega), par_succ, Bool.not_not]
    iintro ⟨-, H⟩; iexact H

/-! ## The hop -/

/-- The tokens hop `h` pays with, and the credits its waits spend. -/
def fuel (c : Dev nD) (h : ℕ) : sProp 𝕄 :=
  iprop(dutyTok ER (kcell c (.snd (par h))) (h / 2) false ∗ dutyTok ER (kcell (nxt c) (.rcv (!par h))) (h / 2) false
    ∗ dutyTok ER (kcell (prv c) .ack) h false ∗ hopCred c h)

/-- Device `c` before hop `h` (after the last one, at `h = 15`). -/
def St (c : Dev nD) (w : S8192x256.Idx → Elt F .f32) (h : ℕ) : sProp 𝕄 :=
  iprop((here c (.snd (par h)) (h / 2) ∗ here c (.snd (!par h)) ((h + 1) / 2) ∗ here c (.rcv (!par h)) (h / 2) ∗ here c (.rcv (par h)) ((h + 1) / 2)
      ∗ here c .ack h)
    ∗ (bigSep (Finset.Ico h 15) (fuel c)) ∗ (∃ W, owes (c : Thread nD τ) (Rem c h) W)
    ∗ slotHas c (par h) (xblk m (back c h)) ∗ Lent c h
    ∗ wPts c w ∗ ∃ g, ⌜Rows m c w (h + 1) g⌝ ∗ oPts c g)

set_option maxHeartbeats 1600000 in
theorem hop_sound (c : Dev nD) (w : S8192x256.Idx → Elt F .f32) (h : ℕ) (hh : h < 15) (Kt : PUnit → sProp 𝕄) :
    iprop(ctx m Kn ∗ St m c w h ∗ (St m c w (h + 1) -∗ Kt ⟨⟩))
      ⊢ wp frame (wpE (defs₀ (F := F)) 𝒱₀ c none) Set.univ (hop c ⟨h, hh⟩ (par h)) Kt := by
  unfold hop St here
  simp only [semSignalWord, semWaitWord, Prog.lift, Prog.bind_op, Prog.bind_ret, Prog.pure_eq_ret]
  rw [BI.bigSep_Ico_succ_bot hh]
  unfold fuel hopCred
  rw [show (Lent c h : sProp 𝕄) = lend c h (par h) from if_pos hh]
  iintro ⟨#Hc, ⟨⟨⟨HaS, #HrS⟩, HhS', ⟨HaR, #HrR⟩, ⟨HaR', #HrR'⟩, HaA, #HrA⟩, ⟨⟨HtS, HtR, HtA, HcA, HcR⟩, Hfuel⟩, ⟨%W, HO⟩, Hs, Hlent, Hw, ⟨%g, %hg, Ho⟩⟩, Hk⟩
  -- the transfer
  iapply (wp_pass m Kn c (rightOf c) (rightOf_eq c) h hh (Rem_succ c h hh) W) $$ [Hs Hlent HO HtS HtR]
  · isplitr; · iexact Hc
    isplitl [Hs]; · iexact Hs
    isplitl [Hlent]; · iexact Hlent
    isplitr; · iexact HrA
    isplitl [HO]; · iexact HO
    isplitl [HtS]; · iexact HtS
    isplitr; · iexact HrS
    iexact HtR
  iintro ⟨HcS, HO⟩
  -- it has left
  iapply (wp_await_block m Kn c (.snd (par h)) (h / 2) 0 0 (src := slotM (!par h)) (b := par h)
    (hsrc := (View.wordExact_bits rfl).reshape _ _) (hdst := (View.wordExact_bits rfl).reshape _ _) rfl rfl (snd_round hh) rfl (by omega)
    (le_refl _) (Above.sent c hh (by omega))) $$ [HcS HO HaS]
  · isplitr; · iexact Hc
    isplitl [HcS]; · iexact HcS
    isplitl [HO]; · iexact HO
    unfold here
    isplitl [HaS]; · iexact HaS
    iexact HrS
  rw [pay_snd]
  iintro ⟨HO, HhS, Hs⟩
  -- the left neighbour's has arrived
  iapply (wp_await_block m Kn c (.rcv (!par h)) (h / 2) h (2 * h + 2) (src := slotM (par h)) (b := !par h)
    (hsrc := (View.wordExact_bits rfl).reshape _ _) (hdst := (View.wordExact_bits rfl).reshape _ _) rfl rfl (rcv_round hh) rfl
    (by omega) (le_refl _) (Above.sent c hh (by omega))) $$ [HcR HO HaR]
  · isplitr; · iexact Hc
    isplitl [HcR]; · iexact HcR
    isplitl [HO]; · iexact HO
    unfold here
    isplitl [HaR]; · iexact HaR
    iexact HrR
  rw [pay_rcv]
  iintro ⟨HO, HhR, Hs', #HrL⟩
  -- the receipt to the left
  ihave Hg := (give m c h (xblk m (back c h))) $$ [Hs]
  · isplitl [Hs]; · iexact Hs
    iexact HrR'
  icases Hg with ⟨Hp, Hkept⟩
  rw [leftOf_eq]
  iapply (Rounds.wp_signal 𝒱₀ ER (Rd m) (c : Thread nD τ) none (dst := (prv c : Thread nD τ)) (κ := Kn (prv c, .ack)) (d := false)
    (mem_duties m (prv c) .ack h false hh (Finset.mem_singleton_self _)) (amount_eq m (prv c) .ack h false) h (Rem c (h + 1)) rfl) $$ [HO HtA Hp]
  · isplitr; · iapply (ctx_inv m Kn (prv c) .ack); iexact Hc
    isplitl [HO]; · iexact HO
    isplitl [HtA]; · iexact HtA
    isplitl [Hp]
    · iapply (show pay m (prv c) .ack h false ⊢ (Rd m).payload ((prv c : Thread nD τ), .reg ackS.sem) h false
        from Entails.of_eq (payload_eq m (prv c) .ack h false).symm)
      iexact Hp
    iexact HrL
  iintro HO
  -- the product
  rw [wp_bind]
  iapply (wp_stripe c (back c (h + 1)) (!par h) _ _ (outOff_eq c ⟨h, hh⟩))
  isplitl [Hs' Hw Ho]
  · isplitl [Hs']; · iexact Hs'
    isplitl [Hw]; · iexact Hw
    iexact Ho
  iintro ⟨Hs', Hw, Ho⟩
  -- the receipt from the right
  iapply (wp_await m Kn c .ack h h (2 * h + 3) (wpE_semWait_eq 𝒱₀ (c : Thread nD τ) none Set.univ) rfl hh rfl
    (by omega) (le_refl _) (Above.rem c (14 - h) (h + 1) (by omega) (by omega))) $$ [HcA HO HaA]
  · isplitr; · iexact Hc
    isplitl [HcA]; · iexact HcA
    isplitl [HO]; · iexact HO
    unfold here
    isplitl [HaA]; · iexact HaA
    iexact HrA
  iintro ⟨HO, HhA, Hp⟩
  ihave Hl := (take m c h hh) $$ [Hp Hkept]
  · isplitl [Hp] <;> iassumption
  rw [wp_ret]; imodintro
  iapply Hk
  rw [par_succ, Bool.not_not, show (h + 1 + 1) / 2 = h / 2 + 1 by omega]
  unfold here
  isplitl [HhS HhS' HhR HaR' HhA]
  · isplitl [HhS']; · iexact HhS'
    isplitl [HhS]; · iexact HhS
    isplitl [HaR']
    · isplitl [HaR']; · iexact HaR'
      iexact HrR'
    isplitl [HhR]; · iexact HhR
    iexact HhA
  isplitl [Hfuel]; · iexact Hfuel
  isplitl [HO]; · iexists _; iexact HO
  isplitl [Hs']; · iexact Hs'
  isplitl [Hl]; · iexact Hl
  isplitl [Hw]; · iexact Hw
  iexists _
  isplitr
  · ipureintro; exact Rows.put m (by omega) hg
  iexact Ho

end Cert.RingMatmul

end
-- ==== Proof.Body.lean ====
/-
  The whole body, executed at a symbolic device: the entry (both neighbours told and heard, the own block of `x` copied
  into slot 0, its stripe written), then the fifteen hops by induction, each by `hop_sound`.
-/
module

public import proofs.«01_k».proof.Proof.Hop

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (Kn : Dev nD × K → ℕ)

/-! ## A device's seven cells -/

omit [FloatOps F] in
theorem bigSep_K (Φ : K → sProp 𝕄) :
    bigSep Finset.univ Φ = iprop(Φ .bar ∗ Φ .ack ∗ Φ .cpy ∗ Φ (.snd false) ∗ Φ (.snd true) ∗ Φ (.rcv false) ∗ Φ (.rcv true)) :=
  bigSep_univ_eq_bigSepL [K.bar, .ack, .cpy, .snd false, .snd true, .rcv false, .rcv true] (by decide) (by decide) Φ

/-- A place at round 0, with what everyone knows of round 0. -/
theorem here_zero (c : Dev nD) (k : K) : iprop(ctx m Kn ∗ atPos ER (kcell c k) 0 ∅ 0) ⊢ here c k 0 := by
  unfold here
  iintro ⟨#Hc, H⟩
  isplitl [H]; · iexact H
  iapply (ctx_reached m Kn c k); iexact Hc

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell whose rounds are all over is at zero; so are the seven. -/
theorem close_one (c : Dev nD) (k : K) : iprop(ctx m Kn ∗ here c k (rounds k)) ⊢ |={Set.univ}=> semVal (kcell c k) 0 := by
  unfold here
  iintro ⟨#Hc, H, -⟩
  iapply (Rounds.cell_close ER (Rd m) (Set.mem_univ (Kn (c, k))) (fun h => h) (R := rounds k) (duties_past m c k))
  isplitr; · iapply (ctx_inv m Kn c k); iexact Hc
  iexact H
theorem close_all (c : Dev nD) :
    iprop(ctx m Kn ∗ bigSep Finset.univ fun k : K => here c k (rounds k)) ⊢ |={Set.univ}=> bigSep Finset.univ fun k : K => semVal (kcell c k) 0 :=
  (bigSep_with fun k _ => close_one m Kn c k).trans (bigSep_fupd _ _)

/-! ## The entry -/

omit [FloatOps F] in
theorem xHeld_eq (c : Dev nD) :
    (xHeld m c : sProp 𝕄) = (xM.view.loc (c : Thread nD τ) ↦[xM.view.set]{fullShare} (m ((c : Thread nD τ).loc main_arg0))) := by
  unfold xHeld
  show _ = ((c : Thread nD τ).loc main_arg0 ↦[(View.whole main_arg0).set]{fullShare} m ((c : Thread nD τ).loc main_arg0))
  rw [View.set_whole]

/-- The wait for both neighbours brings the right one's slot. -/
theorem wp_meet (c : Dev nD) {O : CellTallies nD τ sig ℕ} {W : Waits sig ℕ} {α : Type} {Q : α → sProp 𝕄}
    {kt : PUnit → Prog (TpuEff nD τ sig (Elt F) Λ₀ .tc) α} (hO : Above 1 O) :
    iprop(ctx m Kn ∗ cred (tallyAt (kcell c .bar) 0 2) ∗ owes (c : Thread nD τ) O W ∗ here c .bar 0)
      ⊢ iprop(((owes (c : Thread nD τ) O (insert (csem .bar, 0) W) ∗ here c .bar 1 ∗ lend c 0 false)
            -∗ wp frame (wpE (defs₀ (F := F)) 𝒱₀ c none) Set.univ (kt ⟨⟩) Q)
          -∗ wp frame (wpE (defs₀ (F := F)) 𝒱₀ c none) Set.univ (.op (.semWait barS.sem (2#32).toInt.toNat) kt) Q) := by
  have hl : lv ((c : Thread nD τ), csem .bar) 0 ≤ 1 := le_of_eq (lv_eq c .bar 0)
  have hM1 : lvls (F := F) ⊢ MayWait (c : Thread nD τ) (csem .bar) 0 O := mayWait (by omega) hl hO
  have hM : ctx m Kn ⊢ MayWait (c : Thread nD τ) (csem .bar) 0 O := (@ctx_lev F m Kn).trans hM1
  unfold here
  iintro ⟨#Hc, Hcr, HO, Hat, -⟩ Hk
  iapply (Rounds.wp_wait_rest_token 𝒱₀ ER (Rd m) (c : Thread nD τ) none (κ := Kn (c, .bar)) (wpE_semWait_eq 𝒱₀ (c : Thread nD τ) none Set.univ)
    (Set.mem_univ _) 0 (O := O) (W := W) (R := 0) (m := 0) (T := ∅) (expect_eq m c .bar 0 Nat.one_pos).symm) $$ [Hcr HO Hat]
  · isplitr; · iapply (ctx_inv m Kn c .bar); iexact Hc
    isplitl [Hcr]; · iexact Hcr
    isplitl [HO]; · iexact HO
    isplitr
    · iapply hM; iexact Hc
    iexact Hat
  iintro ⟨HO, Hat, Hr, Hp⟩
  ihave Hp := (show bigSep ((Rd (F := F) m).duties ((c : Thread nD τ), .reg barS.sem) 0 \ ∅) (fun d => (Rd (F := F) m).payload ((c : Thread nD τ), .reg barS.sem) 0 d)
    ⊢ iprop(emp ∗ lend c 0 false) from Entails.of_eq (rest_bar m c)) $$ Hp
  icases Hp with ⟨-, Hp⟩
  iapply Hk
  isplitl [HO]; · iexact HO
  isplitl [Hat Hr]
  · isplitl [Hat]; · iexact Hat
    iexact Hr
  iexact Hp

/-- What device `c` holds when its body starts. -/
def Entry (c : Dev nD) (w : S8192x256.Idx → Elt F .f32) : sProp 𝕄 :=
  iprop((bigSep Finset.univ fun k : K => atPos ER (kcell c k) 0 ∅ 0)
    ∗ (dutyTok ER (kcell (nxt c) .bar) 0 false ∗ dutyTok ER (kcell (prv c) .bar) 0 true ∗ dutyTok ER (kcell c .cpy) 0 false)
    ∗ cred (tallyAt (kcell c .bar) 0 2) ∗ (bigSep (Finset.Ico 0 15) (fuel c)) ∗ (∃ W, owes (c : Thread nD τ) (O₀ c) W)
    ∗ (slotFree c false ∗ slotFree c true) ∗ xHeld m c ∗ wPts c w ∗ ∃ g, oPts c g)

/-- What it is done with after the entry. -/
def Done (c : Dev nD) : sProp 𝕄 := iprop(here c .bar 1 ∗ here c .cpy 1 ∗ xHeld m c)

set_option maxHeartbeats 1600000 in
theorem enter_sound (c : Dev nD) (w : S8192x256.Idx → Elt F .f32) (Kt : PUnit → sProp 𝕄) :
    iprop(ctx m Kn ∗ Entry m c w ∗ ((St m c w 0 ∗ Done m c) -∗ Kt ⟨⟩))
      ⊢ wp frame (wpE (defs₀ (F := F)) 𝒱₀ c none) Set.univ (enter c) Kt := by
  unfold enter Entry slotFree
  simp only [semSignalWord, semWaitWord, Prog.lift, Prog.bind_op, Prog.bind_ret, Prog.pure_eq_ret]
  iintro ⟨#Hc, ⟨Hat, ⟨HtN, HtP, HtC⟩, HcB, Hfuel, ⟨%W, HO⟩, ⟨⟨%f0, Hs0⟩, Hs1⟩, Hx, Hw, ⟨%g, Ho⟩⟩, Hk⟩
  ihave Hat := (bigSep_with (R := ctx m Kn) (S := Finset.univ) fun k _ => here_zero m Kn c k) $$ [Hat]
  · isplitr; · iexact Hc
    iexact Hat
  ihave Hat := (Entails.of_eq (bigSep_K fun k => here c k 0)) $$ Hat
  unfold here
  icases Hat with ⟨⟨HaB, #HrB⟩, HaA, ⟨HaC, #HrC⟩, HaS0, HaS1, HaR0, HaR1, #HrR1⟩
  -- the left neighbour is told that slot 1 is free
  rw [leftOf_eq, rightOf_eq]
  iapply (Rounds.wp_signal 𝒱₀ ER (Rd m) (c : Thread nD τ) none (dst := (prv c : Thread nD τ)) (κ := Kn (prv c, .bar)) (d := true)
    (mem_duties m (prv c) .bar 0 true Nat.one_pos (Finset.mem_univ _)) (amount_eq m (prv c) .bar 0 true) 0
    (Rem c 0 + tallyAt (kcell (nxt c) .bar) 0 1) rfl) $$ [HO HtP Hs1]
  · isplitr; · iapply (ctx_inv m Kn (prv c) .bar); iexact Hc
    isplitl [HO]; · iexact HO
    isplitl [HtP]; · iexact HtP
    isplitl [Hs1]
    · iapply (show pay m (prv c) .bar 0 true ⊢ (Rd m).payload ((prv c : Thread nD τ), .reg barS.sem) 0 true
        from Entails.of_eq (payload_eq m (prv c) .bar 0 true).symm)
      iapply (show lend (prv c) 0 false ⊢ pay m (prv c) .bar 0 true from BI.Entails.refl _)
      unfold lend slotFree
      rw [nxt_prv]
      isplitl [Hs1]; · iexact Hs1
      iexact HrR1
    iapply (ctx_reached m Kn (prv c) .bar); iexact Hc
  iintro HO
  -- the right neighbour is told
  iapply (Rounds.wp_signal 𝒱₀ ER (Rd m) (c : Thread nD τ) none (dst := (nxt c : Thread nD τ)) (κ := Kn (nxt c, .bar)) (d := false)
    (mem_duties m (nxt c) .bar 0 false Nat.one_pos (Finset.mem_univ _)) (amount_eq m (nxt c) .bar 0 false) 0 (Rem c 0) rfl) $$ [HO HtN]
  · isplitr; · iapply (ctx_inv m Kn (nxt c) .bar); iexact Hc
    isplitl [HO]; · iexact HO
    isplitl [HtN]; · iexact HtN
    isplitr
    · iapply (show iprop(emp) ⊢ (Rd m).payload ((nxt c : Thread nD τ), .reg barS.sem) 0 false
        from Entails.of_eq (payload_eq m (nxt c) .bar 0 false).symm)
      iempintro
    iapply (ctx_reached m Kn (nxt c) .bar); iexact Hc
  iintro HO
  -- both are heard
  iapply (wp_meet m Kn c (Above.rem c 15 0 rfl (by omega))) $$ [HcB HO HaB]
  · isplitr; · iexact Hc
    isplitl [HcB]; · iexact HcB
    isplitl [HO]; · iexact HO
    unfold here
    isplitl [HaB]; · iexact HaB
    iexact HrB
  iintro ⟨HO, HaB, Hlend⟩
  -- the own block into slot 0
  ihave Hx := (Entails.of_eq (xHeld_eq m c)) $$ Hx
  iapply (Rounds.wp_copy_pointsTo 𝒱₀ ER (Rd m) (c : Thread nD τ) none (κ := Kn (c, .cpy)) (r := 0) (d := false) (src := xM) (dst := slotM false)
    (mem_duties m c .cpy 0 false Nat.one_pos (Finset.mem_singleton_self _)) 0 N (credit_slot false) (amount_eq m c .cpy 0 false)
    (fs := m ((c : Thread nD τ).loc main_arg0)) (fd := f0)
    (by
      show _ ⊢ (Rd m).payload (kcell c .cpy) 0 false
      rw [payload_eq]
      show _ ⊢ iprop(slotHas c false (xblk m c) ∗ xHeld m c)
      rw [xHeld_eq]
      unfold slotHas owns
      iintro ⟨H, Hx⟩
      isplitl [H]
      · iexists _; isplitr
        · ipureintro
          exact (View.read_write_univ (v := (slotM false).view) (Val := Elt F) f0 _).trans (show xM.view.read (Elt F) (m ((c : Thread nD τ).loc main_arg0)) = xblk m c from View.read_whole _ _)
        iexact H
      iexact Hx)) $$ [Hx Hs0 HtC]
  · isplitr; · iapply (ctx_inv m Kn c .cpy); iexact Hc
    isplitl [Hx]; · iexact Hx
    isplitl [Hs0]; · iexact Hs0
    isplitl [HtC]; · iexact HtC
    iapply (ctx_reached m Kn c .cpy); iexact Hc
  iintro HcC
  iapply (wp_await_block m Kn c .cpy 0 0 0 (src := xM) (b := false) (hsrc := (Memref.isWhole_whole _).wordExact) (hdst := (View.wordExact_bits rfl).reshape _ _)
    rfl rfl Nat.one_pos rfl (by omega) (le_refl _) (Above.rem c 15 0 rfl (by omega))) $$ [HcC HO HaC]
  · isplitr; · iexact Hc
    isplitl [HcC]; · iexact HcC
    isplitl [HO]; · iexact HO
    unfold here
    isplitl [HaC]; · iexact HaC
    iexact HrC
  iintro ⟨HO, HaC, Hp⟩
  ihave Hp := (show pay m c .cpy 0 false ⊢ iprop(slotHas c false (xblk m c) ∗ xHeld m c) from BI.Entails.refl _) $$ Hp
  icases Hp with ⟨Hs0, Hx⟩
  -- its stripe
  iapply (wp_stripe c c false _ _ ((outOff₀_eq c).trans (by rw [back_zero])))
  isplitl [Hs0 Hw Ho]
  · isplitl [Hs0]; · iexact Hs0
    isplitl [Hw]; · iexact Hw
    iexact Ho
  iintro ⟨Hs0, Hw, Ho⟩
  iapply Hk
  unfold St Done here
  isplitr [HaB HaC Hx]
  · isplitl [HaA HaS0 HaS1 HaR0 HaR1]
    · isplitl [HaS0]; · iexact HaS0
      isplitl [HaS1]; · iexact HaS1
      isplitl [HaR1]
      · isplitl [HaR1]; · iexact HaR1
        iexact HrR1
      isplitl [HaR0]; · iexact HaR0
      iexact HaA
    isplitl [Hfuel]; · iexact Hfuel
    isplitl [HO]; · iexists _; iexact HO
    isplitl [Hs0]; · rw [show back c 0 = c from back_zero c]; iexact Hs0
    isplitl [Hlend]
    · iapply (show lend c 0 false ⊢ Lent c 0 from Entails.of_eq (if_pos (by omega)).symm)
      iexact Hlend
    isplitl [Hw]; · iexact Hw
    iexists _
    isplitr
    · ipureintro
      have := Rows.put m (by omega) (Rows.zero m c w g)
      rw [back_zero] at this
      exact this
    iexact Ho
  isplitl [HaB]; · iexact HaB
  isplitl [HaC]; · iexact HaC
  iexact Hx

/-! ## The hops -/

theorem hops_sound (c : Dev nD) (w : S8192x256.Idx → Elt F .f32) (Kt : PUnit → sProp 𝕄) : ∀ (n h : ℕ) (hn : n ≤ 15), n + h = 15 →
    iprop(ctx m Kn ∗ St m c w h ∗ (St m c w 15 -∗ |={Set.univ}=> Kt ⟨⟩)) ⊢ wp frame (wpE (defs₀ (F := F)) 𝒱₀ c none) Set.univ (hops c n hn (par h)) Kt
  | 0, h, hn, e => by
    obtain rfl : h = 15 := by omega
    unfold hops
    iintro ⟨-, H, Hk⟩
    rw [wp_ret]
    iapply Hk; iexact H
  | n + 1, h, hn, e => by
    obtain rfl : h = 14 - n := by omega
    unfold hops
    rw [wp_bind]
    iintro ⟨#Hc, H, Hk⟩
    iapply (hop_sound m Kn c w (14 - n) _)
    isplitr; · iexact Hc
    isplitl [H]; · iexact H
    iintro H
    rw [← par_succ]
    iapply (hops_sound c w Kt n (14 - n + 1) _ (by omega))
    isplitr; · iexact Hc
    isplitl [H]; · iexact H
    iexact Hk

/-! ## The body -/

/-- What device `c` holds when its body ends. -/
def Left (c : Dev nD) (w : S8192x256.Idx → Elt F .f32) : sProp 𝕄 :=
  iprop((bigSep Finset.univ fun k : K => semVal (kcell c k) 0) ∗ (∃ W, owes (c : Thread nD τ) 0 W)
    ∗ (slotFree c false ∗ slotFree c true) ∗ xHeld m c ∗ wPts c w ∗ oPts c (outOf m w))

theorem last_state (c : Dev nD) (w : S8192x256.Idx → Elt F .f32) : iprop(ctx m Kn ∗ St m c w 15 ∗ Done m c) ⊢ |={Set.univ}=> Left m c w := by
  unfold St Done Left
  rw [show par 15 = true from rfl, show (Lent c 15 : sProp 𝕄) = slotFree c false from if_neg (by omega), Rem_end]
  iintro ⟨#Hc, ⟨⟨HaS1, HaS0, HaR0, HaR1, HaA⟩, -, HO, Hs1, Hs0, Hw, ⟨%g, %hg, Ho⟩⟩, HaB, HaC, Hx⟩
  ihave Hat := (Entails.of_eq (bigSep_K fun k => here c k (rounds k)).symm) $$ [HaS1 HaS0 HaR0 HaR1 HaA HaB HaC]
  · isplitl [HaB]; · iexact HaB
    isplitl [HaA]; · iexact HaA
    isplitl [HaC]; · iexact HaC
    isplitl [HaS0]; · iexact HaS0
    isplitl [HaS1]; · iexact HaS1
    isplitl [HaR0]; · iexact HaR0
    iexact HaR1
  imod (close_all m Kn c) $$ [Hat] with Hz
  · isplitr; · iexact Hc
    iexact Hat
  imodintro
  isplitl [Hz]; · iexact Hz
  isplitl [HO]; · iexact HO
  isplitl [Hs1 Hs0]
  · isplitl [Hs0]; · iexact Hs0
    iapply (slotHas_free c true (xblk m (back c 15))); iexact Hs1
  isplitl [Hx]; · iexact Hx
  isplitl [Hw]; · iexact Hw
  rw [show outOf m w = g from (Rows.all (F := F) m hg).symm]
  iexact Ho

theorem ring_sound (c : Dev nD) (w : S8192x256.Idx → Elt F .f32) (Kt : PUnit → sProp 𝕄) :
    iprop(ctx m Kn ∗ Entry m c w ∗ (Left m c w -∗ Kt ⟨⟩)) ⊢ wp frame (wpE (defs₀ (F := F)) 𝒱₀ c none) Set.univ ringBody Kt := by
  have hh := hops_sound m Kn c w Kt 15 0 (le_refl _) rfl
  rw [show par 0 = false by decide] at hh
  unfold ringBody
  rw [wp_deviceId, wp_bind]
  iintro ⟨#Hc, He, Hk⟩
  iapply (enter_sound m Kn c w)
  isplitr; · iexact Hc
  isplitl [He]; · iexact He
  iintro ⟨H, Hd⟩
  iapply hh
  isplitr; · iexact Hc
  isplitl [H]; · iexact H
  iintro H
  imod (last_state m Kn c w) $$ [H Hd] with Hl
  · isplitr; · iexact Hc
    isplitl [H] <;> iassumption
  imodintro
  iapply Hk; iexact Hl

end Cert.RingMatmul

end
-- ==== Proof.Obl.lean ====
/-
  The body as the launch calls it: what a device holds before and after, the travelling buffer taken apart into its two
  slots and put together again, and the body's obligation, met by `ring_sound`.
-/
module

public import proofs.«01_k».proof.Proof.Body
public import Idealize.ShloMosaic.Lib.Ring
public import proofs.«01_k».proof.Proof.Gen.KernelIdeal.Launch
public import proofs.«01_k».proof.Proof.Gen.KernelIdeal.Points

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The travelling buffer as two slots -/

theorem mem_slot (b : Bool) (i : S2x512x8192.Idx) : i ∈ (slotM b).view.set ↔ (i (0 : Fin 3)).val = b.toNat := by
  have e : (slotM b).view.set = (slotR b).set := (slot_set b).trans
    ((View.set_slice bM.view (slotR b)).symm.trans (View.set_slice_whole cc0_scratch0 (slotR b)))
  refine (iff_of_eq (congrArg (i ∈ ·) e)).trans (Rect.mem_set_unit.trans ?_)
  constructor
  · intro h
    have h0 := h (0 : Fin 3)
    have h1 : b.toNat ≤ (i (0 : Fin 3)).val ∧ (i (0 : Fin 3)).val < b.toNat + 1 := h0
    omega
  · intro h a
    have hi := (i a).isLt
    fin_cases a
    · show b.toNat ≤ (i (0 : Fin 3)).val ∧ (i (0 : Fin 3)).val < b.toNat + 1
      omega
    · show 0 ≤ (i (1 : Fin 3)).val ∧ (i (1 : Fin 3)).val < 0 + 512
      exact ⟨Nat.zero_le _, by rw [Nat.zero_add]; exact hi⟩
    · show 0 ≤ (i (2 : Fin 3)).val ∧ (i (2 : Fin 3)).val < 0 + 8192
      exact ⟨Nat.zero_le _, by rw [Nat.zero_add]; exact hi⟩

/-- The whole travelling buffer of device `c`, at any contents. -/
def scr (c : Dev nD) : sProp 𝕄 := iprop(∃ f : Buf (Elt F) ((c : Thread nD τ).loc cc0_scratch0), ((c : Thread nD τ).loc cc0_scratch0) ↦{fullShare} f)

def slotIx (s : Fin 2) : Finset S2x512x8192.Idx := (slotM (s == 1)).view.set
theorem slotIx_disjoint (s s' : Fin 2) (h : s ≠ s') : Disjoint (slotIx s) (slotIx s') := by
  rw [Finset.disjoint_left]
  intro i hi hi'
  have h1 := (mem_slot _ i).mp hi
  have h2 := (mem_slot _ i).mp hi'
  rw [h1] at h2
  fin_cases s <;> fin_cases s' <;> first | exact h rfl | exact absurd h2 (by decide)
theorem slotIx_cover : Finset.univ.biUnion slotIx = Finset.univ := by
  ext i
  simp only [Finset.mem_biUnion, Finset.mem_univ, true_and, iff_true]
  have hi : (i (0 : Fin 3)).val < 2 := (i (0 : Fin 3)).isLt
  rcases Nat.lt_succ_iff_lt_or_eq.mp hi with h | h
  · exact ⟨0, (mem_slot false i).mpr (by show _ = 0; omega)⟩
  · exact ⟨1, (mem_slot true i).mpr h⟩

omit [FloatOps F] in
theorem scr_split (c : Dev nD) : scr c ⊢ (iprop(slotFree c false ∗ slotFree c true) : sProp 𝕄) :=
  Ring.slots2_split (ℓ := (c : Thread nD τ).loc cc0_scratch0) slotIx slotIx_disjoint slotIx_cover _ _ (fun _ => rfl) (fun _ => rfl)
omit [FloatOps F] in
theorem scr_join (c : Dev nD) : (iprop(slotFree c false ∗ slotFree c true) : sProp 𝕄) ⊢ scr c :=
  Ring.slots2_join (ℓ := (c : Thread nD τ).loc cc0_scratch0) slotIx slotIx_disjoint slotIx_cover _ _ (fun _ => rfl) (fun _ => rfl)

/-! ## What a device starts from and ends with -/

/-- The cells' invariants and that every cell has come to its round 0. -/
def recs (Kn : Dev nD × K → ℕ) : sProp 𝕄 :=
  iprop((bigSep Finset.univ fun ck : Dev nD × K => cellInv ER (Rd m) (Kn ck) (kcell ck.1 ck.2))
    ∗ (bigSep Finset.univ fun ck : Dev nD × K => reached ER (kcell ck.1 ck.2) 0))
instance recs_persistent (Kn : Dev nD × K → ℕ) : BI.Persistent (recs m Kn) := by unfold recs; infer_instance

/-- The tokens of a hop's duties; of the entry's. -/
def hopToks (c : Dev nD) (h : ℕ) : sProp 𝕄 :=
  iprop(dutyTok ER (kcell c (.snd (par h))) (h / 2) false ∗ dutyTok ER (kcell (nxt c) (.rcv (!par h))) (h / 2) false
    ∗ dutyTok ER (kcell (prv c) .ack) h false)
def entryToks (c : Dev nD) : sProp 𝕄 :=
  iprop(dutyTok ER (kcell (nxt c) .bar) 0 false ∗ dutyTok ER (kcell (prv c) .bar) 0 true ∗ dutyTok ER (kcell c .cpy) 0 false)

def linear (c : Dev nD) : sProp 𝕄 :=
  iprop((bigSep Finset.univ fun k : K => atPos ER (kcell c k) 0 ∅ 0) ∗ entryToks c ∗ bigSep (Finset.Ico 0 15) (hopToks c))
def Ghost (c : Dev nD) : sProp 𝕄 := iprop(∃ Kn, recs m Kn ∗ linear c)

def start (c : Dev nD) : sProp 𝕄 :=
  iprop(Ghost m c ∗ ((bigSep (Finset.Ico 0 15) (hopCred c)) ∗ cred (tallyAt (kcell c .bar) 0 2)) ∗ lvls ∗ xHeld m c)

omit [FloatOps F] in
theorem fuel_intro (c : Dev nD) :
    (iprop((bigSep (Finset.Ico 0 15) (hopToks c)) ∗ (bigSep (Finset.Ico 0 15) (hopCred c))) : sProp 𝕄) ⊢ bigSep (Finset.Ico 0 15) (fuel c) := by
  rw [← bigSep_sep']
  refine bigSep_mono fun h _ => ?_
  show (iprop(hopToks c h ∗ hopCred c h) : sProp 𝕄) ⊢ fuel c h
  unfold hopToks fuel
  iintro ⟨⟨H1, H2, H3⟩, H4⟩
  isplitl [H1]; · iexact H1
  isplitl [H2]; · iexact H2
  isplitl [H3] <;> iassumption

/-- The staged `w` of device `c`. -/
def wStg (c : Dev nD) : (cc0_stg0_0 : Ref sig .tc).ty.Contents (Elt F) :=
  (win0_0.blk t0_0).view.read (Elt F) (m ((c : Thread nD τ).loc main_arg1))

def Φ₀ (c : Dev nD) : sProp 𝕄 := iprop(start m c ∗ scr c)
def Φ₁ (c : Dev nD) : sProp 𝕄 := iprop((bigSep Finset.univ fun k : K => semVal (kcell c k) 0) ∗ xHeld m c ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => wStg m c
    | ⟨1, _⟩ => outOf m (wStg m c)
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The obligation -/

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m c ∗ (dats m ρ 0 c).owesAt 0 (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def post (c : Dev nD) : sProp 𝕄 :=
  iprop(Φ₁ m c ∗ (dats m ρ 0 c).owesAt 0 (t0_0 : Fin cfg0.N).succ ∗ stg c cc0_stg0_0 (wStg m c) ∗ stg c cc0_stg1_0 (outOf m (wStg m c)))

theorem pre_entry (c : Dev nD) : pre m ρ c ⊢ iprop(∃ Kn, ctx m Kn ∗ Entry m c (wStg m c)) := by
  unfold pre Φ₀ start Ghost linear Entry Dat.owesAt Pipeline.owesWithin
  rw [show (dats m ρ 0 c).owed (t0_0 : Fin cfg0.N).castSucc = O₀ c from rfl]
  iintro ⟨⟨⟨⟨%Kn, #Hr, Hat, He, Ht⟩, ⟨Hcr, Hcb⟩, #Hlv, Hx⟩, Hs⟩, ⟨%W, -, HO⟩, ⟨%d0, %g0, %hg0, Hw⟩, ⟨%d1, %g1, -, Ho⟩⟩
  have hw : g0 = wStg m c := by rw [hg0]; unfold Dat.before; rw [if_pos (fetch0_0 t0_0)]; rfl
  subst hw
  iexists Kn
  isplitr
  · unfold recs ctx
    icases Hr with ⟨#H1, #H2⟩
    isplitr; · iexact H1
    isplitr; · iexact H2
    iexact Hlv
  isplitl [Hat]; · iexact Hat
  isplitl [He]; · unfold entryToks; iexact He
  isplitl [Hcb]; · iexact Hcb
  isplitl [Ht Hcr]
  · iapply (fuel_intro c)
    isplitl [Ht] <;> iassumption
  isplitl [HO]; · iexists W; iexact HO
  isplitl [Hs]; · iapply (scr_split c); iexact Hs
  isplitl [Hx]; · iexact Hx
  isplitl [Hw]; · iexact Hw
  iexists g1; iexact Ho

theorem left_post (c : Dev nD) : Left m c (wStg m c) ⊢ post m ρ c := by
  unfold Left post Φ₁ Dat.owesAt Pipeline.owesWithin
  rw [show (dats m ρ 0 c).owed (t0_0 : Fin cfg0.N).succ = 0 from rfl]
  iintro ⟨Hz, ⟨%W, HO⟩, Hs, Hx, Hw, Ho⟩
  isplitl [Hz Hs Hx]
  · isplitl [Hz]; · iexact Hz
    isplitl [Hx]; · iexact Hx
    iapply (scr_join c); iexact Hs
  isplitl [HO]
  · iexists W
    isplitr; · ipureintro; exact fun _ _ => Or.inl trivial
    iexact HO
  isplitl [Hw]
  · iexists _; isplitr; · (ipureintro; rfl)
    iexact Hw
  iexists _; isplitr; · (ipureintro; rfl)
  iexact Ho

set_option maxRecDepth 4000 in
/-- The launch's obligation for the body on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  refine Entails.trans (Q := pre (F := F) m ρ c) .rfl ?_
  have body_is : (defs₀ (F := F)) Proc.tc 0 (t0_0, cfg0.slots t0_0) = ringBody := printedBody_eq
  have run : pre (F := F) m ρ c ⊢ wp frame (wpE (defs₀ (F := F)) 𝒱₀ c none) Set.univ ((defs₀ (F := F)) Proc.tc 0 (t0_0, cfg0.slots t0_0))
      (fun _ => iprop((dats (F := F) m ρ 0 c).Φ (t0_0 : Fin cfg0.N).succ ∗ (dats (F := F) m ρ 0 c).owesAt 0 (t0_0 : Fin cfg0.N).succ
        ∗ stg c cc0_stg0_0 ((dats (F := F) m ρ 0 c).after (0 : Fin 2) t0_0) ∗ stg c cc0_stg1_0 ((dats (F := F) m ρ 0 c).after (1 : Fin 2) t0_0))) := by
    have he : (fun _ : PUnit => post (F := F) m ρ c) = (fun _ : PUnit => iprop((dats (F := F) m ρ 0 c).Φ (t0_0 : Fin cfg0.N).succ
        ∗ (dats (F := F) m ρ 0 c).owesAt 0 (t0_0 : Fin cfg0.N).succ
        ∗ stg c cc0_stg0_0 ((dats (F := F) m ρ 0 c).after (0 : Fin 2) t0_0) ∗ stg c cc0_stg1_0 ((dats (F := F) m ρ 0 c).after (1 : Fin 2) t0_0))) := rfl
    rw [body_is, ← he]
    refine (pre_entry (F := F) m ρ c).trans ?_
    iintro ⟨%Kn, Hc, He⟩
    iapply (ring_sound (F := F) m Kn c (wStg m c))
    isplitl [Hc]; · iexact Hc
    isplitl [He]; · iexact He
    iintro H
    iapply (left_post (F := F) m ρ c); iexact H
  convert run using 1

end Cert.RingMatmul

end
-- ==== Proof.Launch.lean ====
/-
  The launch: the cells' invariants, places and tokens dealt to the devices, the memory routed into the body and back, and
  the run of the whole program.
-/
module

public import proofs.«01_k».proof.Proof.Obl
public import Idealize.ShloMosaic.Lib.Quiescent
public import Idealize.ShloMosaic.Lib.Pipeline.CollectiveSegs

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ) (ρ : Dev nD → PrngReg)

/-! ## Cells and tokens -/

theorem kcell_injective : Function.Injective (fun ck : Dev nD × K => kcell ck.1 ck.2) := fun a b h =>
  Prod.ext (kcell_inj h).1 (kcell_inj h).2
def cells : Finset (GSem nD τ sig) := Finset.univ.map ⟨fun ck : Dev nD × K => kcell ck.1 ck.2, kcell_injective⟩

/-- Duty `j` of hop `i` of a device: on whose cell, of which kind, at which round. -/
def hopDev (c : Dev nD) (j : Fin 3) : Dev nD := match j with | 0 => c | 1 => nxt c | 2 => prv c
def hopKind (i : ℕ) (j : Fin 3) : K := match j with | 0 => .snd (par i) | 1 => .rcv (!par i) | 2 => .ack
def hopRound (i : ℕ) (j : Fin 3) : ℕ := match j with | 0 => i / 2 | 1 => i / 2 | 2 => i
/-- The same of a duty of its entry. -/
def entryDev (c : Dev nD) (j : Fin 3) : Dev nD := match j with | 0 => nxt c | 1 => prv c | 2 => c
def entryKind (j : Fin 3) : K := match j with | 0 => .bar | 1 => .bar | 2 => .cpy
def entryPart (j : Fin 3) : Bool := j == 1

def hopDuty (x : Dev nD × Fin 15 × Fin 3) : GSem nD τ sig × ℕ × Bool :=
  (kcell (hopDev x.1 x.2.2) (hopKind x.2.1 x.2.2), hopRound x.2.1 x.2.2, false)
def entryDuty (x : Dev nD × Fin 3) : GSem nD τ sig × ℕ × Bool := (kcell (entryDev x.1 x.2) (entryKind x.2), 0, entryPart x.2)

theorem hopDev_inj {c c' : Dev nD} (j : Fin 3) (h : hopDev c j = hopDev c' j) : c = c' := by
  fin_cases j
  exacts [h, ring.injective h, ring.symm.injective h]
theorem entryDev_inj {c c' : Dev nD} (j : Fin 3) (h : entryDev c j = entryDev c' j) : c = c' := by
  fin_cases j
  exacts [ring.injective h, ring.symm.injective h, h]
theorem half_inj {i i' : ℕ} (e : par i = par i') (e' : i / 2 = i' / 2) : i = i' := by
  have h := half_par i
  rw [e, e', half_par i'] at h
  exact h.symm
theorem hopKind_inj {i i' : ℕ} {j j' : Fin 3} (h : hopKind i j = hopKind i' j') (hr : hopRound i j = hopRound i' j') : j = j' ∧ i = i' := by
  fin_cases j <;> fin_cases j'
  case «0».«0» => exact ⟨rfl, half_inj (K.snd.inj h) hr⟩
  case «1».«1» => exact ⟨rfl, half_inj (Bool.not_inj (K.rcv.inj h)) hr⟩
  case «2».«2» => exact ⟨rfl, hr⟩
  all_goals exact K.noConfusion h
theorem entryKind_inj {j j' : Fin 3} (h : entryKind j = entryKind j') (hp : entryPart j = entryPart j') : j = j' := by
  revert j j'; decide
theorem hop_ne_entry (i : ℕ) (j j' : Fin 3) : hopKind i j ≠ entryKind j' := by
  fin_cases j <;> fin_cases j' <;> exact K.noConfusion

theorem hopDuty_injective : Function.Injective hopDuty := by
  rintro ⟨c, i, j⟩ ⟨c', i', j'⟩ h
  obtain ⟨hd, hk⟩ := kcell_inj (congrArg Prod.fst h)
  obtain ⟨hj, hi⟩ := hopKind_inj hk (congrArg (fun x => x.2.1) h)
  dsimp only at hj hi hd
  subst hj
  rw [Fin.ext hi, hopDev_inj _ hd]

theorem entryDuty_injective : Function.Injective entryDuty := by
  rintro ⟨c, j⟩ ⟨c', j'⟩ h
  obtain ⟨hd, hk⟩ := kcell_inj (congrArg Prod.fst h)
  have hj := entryKind_inj hk (congrArg (fun x => x.2.2) h)
  dsimp only at hj hd
  subst hj
  rw [entryDev_inj _ hd]

def hopTs : Finset (GSem nD τ sig × ℕ × Bool) := Finset.univ.map ⟨hopDuty, hopDuty_injective⟩
def entryTs : Finset (GSem nD τ sig × ℕ × Bool) := Finset.univ.map ⟨entryDuty, entryDuty_injective⟩

theorem hopTs_entryTs : Disjoint hopTs entryTs := by
  rw [Finset.disjoint_left]
  intro x hx hx'
  obtain ⟨⟨c, i, j⟩, -, rfl⟩ := Finset.mem_map.mp hx
  obtain ⟨⟨c', j'⟩, -, e⟩ := Finset.mem_map.mp hx'
  exact hop_ne_entry i j j' (kcell_inj (congrArg Prod.fst e)).2.symm

def u₀ : UU :=
  (initOf (Pipeline.cells cfgs cellOf_inj) (Pipeline.launchToks cfgs cellOf_inj), initOf cells (hopTs ∪ entryTs))

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem hopTs_dealt : bigSep hopTs (fun x => (dutyTok ER x.1 x.2.1 x.2.2 : sProp 𝕄))
    = bigSep Finset.univ fun c : Dev nD => bigSep (Finset.Ico 0 15) (hopToks c) := by
  unfold hopTs
  rw [bigSep_map, bigSep_univ_prod]
  refine bigSep_congr fun c _ => ?_
  rw [bigSep_univ_prod, show Finset.Ico 0 15 = (Finset.univ : Finset (Fin 15)).map Fin.valEmbedding by decide, bigSep_map]
  exact bigSep_congr fun i _ => by rw [bigSep_three]; rfl

omit [FloatOps F] in
theorem entryTs_dealt : bigSep entryTs (fun x => (dutyTok ER x.1 x.2.1 x.2.2 : sProp 𝕄)) = bigSep Finset.univ fun c : Dev nD => entryToks c := by
  unfold entryTs
  rw [bigSep_map, bigSep_univ_prod]
  exact bigSep_congr fun c _ => by rw [bigSep_three]; rfl

/-! ## What the launch deals a device -/

def G (c : Dev nD) : sProp 𝕄 :=
  iprop((bigSep Finset.univ fun k : K => roundState ER (Rd m) (kcell c k) 0)
    ∗ (bigSep Finset.univ fun k : K => iprop(atPos ER (kcell c k) 0 ∅ 0 ∗ reached ER (kcell c k) 0))
    ∗ entryToks c ∗ bigSep (Finset.Ico 0 15) (hopToks c))

theorem fund_dealt : BI.own (ER (initOf cells (hopTs ∪ entryTs))) ⊢ (|==> bigSep Finset.univ (G m) : sProp 𝕄) := by
  have hX (Φ : GSem nD τ sig → sProp 𝕄) : bigSep cells Φ = bigSep Finset.univ fun c : Dev nD => bigSep Finset.univ fun k : K => Φ (kcell c k) := by
    unfold cells; rw [bigSep_map, bigSep_univ_prod]; rfl
  have hT : bigSep (hopTs ∪ entryTs) (fun x => (dutyTok ER x.1 x.2.1 x.2.2 : sProp 𝕄))
      = iprop((bigSep Finset.univ fun c : Dev nD => bigSep (Finset.Ico 0 15) (hopToks c)) ∗ bigSep Finset.univ fun c : Dev nD => entryToks c) := by
    rw [← hopTs_dealt, ← entryTs_dealt]
    exact bigSep_union hopTs_entryTs
  iintro HX
  imod (Rounds.fund ER (Rd m) cells (hopTs ∪ entryTs)) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  icases Htok' with ⟨Hh, He⟩
  unfold G; simp only [bigSep_sep']
  isplitl [Hst']; · iexact Hst'
  isplitl [Hat' Hr']
  · isplitl [Hat'] <;> iassumption
  isplitl [He]; · iexact He
  iexact Hh

/-! ## The semaphores -/

/-- The kernel's own six semaphores; the barrier's is not among them, it outlives the kernel. -/
abbrev osem : Fin 6 → SemLoc sig := fun i => csem ([K.ack, .cpy, .snd false, .snd true, .rcv false, .rcv true].get i)
theorem ownSemFacts : Pipeline.OwnSemFacts cfg0.spec osem := by decide

omit [FloatOps F] in
theorem ownSems0_eq (c : Dev nD) : (Pipeline.ownSems0 (Ix := ℕ) (Name := ℕ) (U := UU) (Lvl := ℕ) (Val := Elt F) (τ := τ) osem c : sProp 𝕄)
    = iprop(semVal (kcell c .ack) 0 ∗ semVal (kcell c .cpy) 0 ∗ semVal (kcell c (.snd false)) 0 ∗ semVal (kcell c (.snd true)) 0
        ∗ semVal (kcell c (.rcv false)) 0 ∗ semVal (kcell c (.rcv true)) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (kcell c .bar) 0 := by
  unfold unscopedSems0; rw [bigSep_eq_bigSepL_of_eq [SemLoc.reg barS.sem] (by decide) (by decide)]; rfl

omit [FloatOps F] in
theorem sems0_eq (c : Dev nD) :
    iprop(unscopedSems0 c ∗ Pipeline.ownSems0 (Ix := ℕ) (Name := ℕ) (U := UU) (Lvl := ℕ) (Val := Elt F) (τ := τ) osem c)
      = (bigSep Finset.univ fun k : K => semVal (kcell c k) 0 : sProp 𝕄) := by
  rw [ownSems0_eq, unscopedSems0_eq, bigSep_K]

/-- Every cell of a device gets its invariant. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : K => iprop(∃ κ : ℕ, cellInv ER (Rd m) κ (kcell c k)))
          ∗ (bigSep Finset.univ fun k : K => reached ER (kcell c k) 0) ∗ linear c) := by
  have alloc : iprop((bigSep Finset.univ fun k : K => semVal (kcell c k) 0) ∗ bigSep Finset.univ fun k : K => roundState ER (Rd m) (kcell c k) 0)
      ⊢ (|={Set.univ}=> bigSep Finset.univ fun k : K => iprop(∃ κ : ℕ, cellInv ER (Rd m) κ (kcell c k)) : sProp 𝕄) := by
    rw [← bigSep_sep']
    exact (bigSep_mono fun k _ => (Rounds.body_intro ER (Rd m) (kcell c k)).trans inv_alloc).trans (bigSep_fupd _ _)
  unfold G linear
  rw [bigSep_sep']
  iintro ⟨Hos, Hus, Hst, ⟨Hat, Hr⟩, Htok⟩
  ihave Hv := (Entails.of_eq (sems0_eq (F := F) c)) $$ [Hos Hus]
  · isplitl [Hus] <;> iassumption
  imod alloc $$ [Hv Hst] with Hinv
  · isplitl [Hv] <;> iassumption
  imodintro
  isplitl [Hinv]; · iexact Hinv
  isplitl [Hr]; · iexact Hr
  isplitl [Hat]; · iexact Hat
  iexact Htok

theorem regroup :
    (bigSep Finset.univ fun c : Dev nD => iprop((bigSep Finset.univ fun k : K => iprop(∃ κ : ℕ, cellInv ER (Rd m) κ (kcell c k)))
          ∗ (bigSep Finset.univ fun k : K => reached ER (kcell c k) 0) ∗ linear c) : sProp 𝕄)
      ⊢ bigSep Finset.univ (Ghost m) := by
  rw [bigSep_sep', bigSep_sep', ← bigSep_univ_prod (fun ck : Dev nD × K => iprop(∃ κ : ℕ, cellInv ER (Rd m) κ (kcell ck.1 ck.2))),
    ← bigSep_univ_prod (fun ck : Dev nD × K => (reached ER (kcell ck.1 ck.2) 0 : sProp 𝕄))]
  iintro ⟨HI, #HR, Hl⟩
  ihave HK := (BI.bigSep_exists_pi Finset.univ (fun (ck : Dev nD × K) (κ : ℕ) => (cellInv ER (Rd m) κ (kcell ck.1 ck.2) : sProp 𝕄))) $$ HI
  icases HK with ⟨%Kn, #HI⟩
  iapply (bigSep_with (R := recs m Kn) (Φ := linear) (Ψ := Ghost m) fun c _ => show iprop(recs m Kn ∗ linear c) ⊢ Ghost m c from by
    unfold Ghost; iintro H; iexists Kn; iexact H)
  isplitr
  · unfold recs; isplitl; · iexact HI
    iexact HR
  · iexact Hl

theorem glob : (bigSep Finset.univ fun c => iprop(Pipeline.ownSems0 (Ix := ℕ) (Name := ℕ) (U := UU) (Lvl := ℕ) (Val := Elt F) (τ := τ) osem c
      ∗ unscopedSems0 c ∗ G m c) : sProp 𝕄)
    ⊢ |={Set.univ}=> bigSep Finset.univ (Ghost m) :=
  ((bigSep_mono fun c _ => core_alloc m c).trans (bigSep_fupd _ _)).trans (BI.fupd_mono (regroup m))

/-! ## In and out -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ghost m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start lvls xHeld
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ xHeld m c) ∗ Pipeline.ownSems0 osem c ∗ Pipeline.scopedRest cfg0.spec c) := by
  rw [show (dats m ρ 0 c).Φ (Fin.last cfg0.N) = Φ₁ m c from rfl, scopedRest0_eq]
  unfold Φ₁ scr
  rw [← sems0_eq]
  iintro ⟨⟨Hb, Ho⟩, Hx, Hr⟩
  isplitl [Hb Hx]
  · isplitl [Hb] <;> iassumption
  isplitl [Ho]; · iexact Ho
  iexact Hr

/-- What a device owes at launch stands above the bottom. -/
theorem above_O₀ (c : Dev nD) : Above 0 (O₀ c) := by
  unfold O₀
  exact ((Above.rem c 15 0 rfl (by decide)).add (Above.one (by decide) (by decide))).add (Above.one (by decide) (by decide))

theorem waits (c : Dev nD) : (levAts L lv : sProp 𝕄) ⊢ Pipeline.cellsWaits cfgs (dats m ρ) 0 0 c :=
  Pipeline.cellsWaits_intro cfgs (dats m ρ) 0 0 c fun w s t =>
    mayWait (F := F) (x := 0) (by decide)
      (by fin_cases w <;> fin_cases s <;> exact Nat.le_of_eq rfl)
      (by rcases t with ⟨_ | _, ht⟩; exacts [above_O₀ c, Above.zero 0])

/-! ## The run -/

theorem share_eq (c : Dev nD) (w : Fin cfg0.W) : (dats m ρ 0 c).share w = fullShare := by unfold Dat.share; split <;> rfl

/-- A window's array after the run. -/
def fin (c : Dev nD) (w : Fin cfg0.W) : Buf (Elt F) ((cfg0.win w).arr.view.loc (c : Thread nD τ)) := (dats m ρ 0 c).arrAt w cfg0.N

/-- What holds when the program has ended: the windows' arrays are what was computed, `x` is as it was, all counters are zero. -/
def Ends (r : PUnit × MemSt nD τ sig (Elt F)) : Prop :=
  (∀ c : Dev nD, (∀ w : Fin cfg0.W, r.2.mem ((cfg0.win w).arr.view.loc (c : Thread nD τ)) = fin m ρ c w)
    ∧ r.2.mem ((c : Thread nD τ).loc main_arg0) = m ((c : Thread nD τ).loc main_arg0))
  ∧ r.2.sem = fun _ => 0

theorem read_end (c : Dev nD) (s' : Phys nD τ sig (Elt F)) :
    iprop((unscopedSems0 c ∗ xHeld m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s') : sProp 𝕄) := by
  unfold xHeld
  iintro ⟨⟨Hu, Hx⟩, -, HSI⟩
  icombine HSI Hx gives %hx
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hx i (Finset.mem_univ i)⟩
  iexact HSI

set_option maxRecDepth 8000 in
/-- From any memory with zero counters, at any float values, every fair execution ends as `Ends` says. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := Ghost m) (u₀ := u₀)
    (hu₀ := by
      unfold u₀
      iintro Hu
      ihave H := (ownU_pair _ _) $$ Hu
      icases H with ⟨HP, HX⟩
      imod (fund_dealt m) $$ HX with HG
      imodintro
      isplitl [HP] <;> iassumption)
    (hglob := glob m)
    (hA := fun _ _ => rfl) (hpf := fun _ k => k.elim0)
    (X := start m) (Y := fun c => iprop(unscopedSems0 c ∗ xHeld m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_end m)
    (hQ := fun _ h hs => ⟨fun c => ⟨(h c).1, (h c).2.2.2⟩, sem_eq_zero hs fun c => (h c).2.2.1⟩)

/-- The `w` array ends as it was; -/
theorem fin_w (c : Dev nD) : fin m ρ c (0 : Fin 2) = (s₀ m ρ).mem (win0_0.arr.view.loc (c : Thread nD τ)) :=
  (dats (F := F) m ρ 0 c).arrAt_in (0 : Fin 2) rfl _

/-- the result's one block is what the body left. -/
theorem fin_out_blk (c : Dev nD) : (win0_1.blk t0_0).view.read (Elt F) (fin m ρ c (1 : Fin 2)) = outOf m (wStg m c) := by
  unfold fin
  rw [show cfg0.N = (t0_0 : Fin cfg0.N).val + 1 from rfl, (dats m ρ 0 c).arrAt_succ (1 : Fin 2) (t0_0 : Fin cfg0.N)]
  rw [flush0_1, if_pos rfl]
  exact View.read_write_univ _ _

/-- Both in terms of the arrays: the block is the whole array. -/
theorem wStg_eq (c : Dev nD) : wStg m c = m ((c : Thread nD τ).loc main_arg1) :=
  Memref.read_access_unit_zero (Elt F) main_arg1 (funext fun a => by fin_cases a <;> decide) (fun a => by fin_cases a <;> decide) _
theorem fin_out (c : Dev nD) : fin m ρ c (1 : Fin 2) = outOf m (m ((c : Thread nD τ).loc main_arg1)) := by
  rw [← wStg_eq m c, ← fin_out_blk m ρ c]
  exact (Memref.read_access_unit_zero (Elt F) main_v1 (funext fun a => by fin_cases a <;> decide) (fun a => by fin_cases a <;> decide) _).symm

end Cert.RingMatmul

end
-- ==== Proof.Value.lean ====
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

/-! # The result as a block of the reference's product

Over the extended reals an entry of a device's result, and the entry of the whole product at the same place, are one
sum of 8192 products. -/

@[expose] public section

noncomputable section

namespace Cert.RingMatmul

open Cert.KernelIdeal Cert.KernelIdeal.Gen
open Idealize.ShloMosaic Idealize.ShloMosaic.TcCoe Idealize.ShloMosaic.ValueIdx
open scoped BigOperators

/-- The whole product, as the reference prints it. -/
abbrev product (X : FVec Ideal ⟨2, ![8192, 8192]⟩ .f32) (W : FVec Ideal ⟨2, ![8192, 4096]⟩ .f32) :
    FVec Ideal ⟨2, ![8192, 4096]⟩ .f32 :=
  Host.dotGeneral Cert.ReferenceIdeal.dot_S8192x8192_S8192x4096_S8192x4096_1_0_0_1_n_n none X W

/-- An entry of the whole product is the sum along its row and its column. -/
theorem product_at (X : FVec Ideal ⟨2, ![8192, 8192]⟩ .f32) (W : FVec Ideal ⟨2, ![8192, 4096]⟩ .f32)
    (r : Fin 8192) (c : Fin 4096) : product X W (ix2 r c) = ∑ k : Fin 8192, X (ix2 r k) * W (ix2 k c) :=
  StackMember.dotGeneral_plain_apply none X W r c

/-- An entry of one block's product is the sum along its row and its column. -/
theorem tile_at (X : FVec Ideal ⟨2, ![512, 8192]⟩ .f32) (w : FVec Ideal ⟨2, ![8192, 256]⟩ .f32)
    (r : Fin 512) (c : Fin 256) : tile (F := Ideal) X w (ix2 r c) = ∑ k : Fin 8192, X (ix2 r k) * w (ix2 k c) := by
  unfold tile
  rw [shapeCast_self]
  refine (Ideal.matmul_plain_apply none X w _ r c).trans ?_
  rw [show (constant (F := Ideal) ⟨2, ![512, 256]⟩ .f32 0x00000000#32) (ix2 r c) = 0 from Ideal.ofBits_zero_f32, zero_add]

/-- **A device's result is its block of columns of the whole product**, when the devices hold the row blocks of `X` and
    this one holds its block of columns of `W`. -/
theorem outOf_block (m : (ℓ : Loc nD τ sig) → Buf (Elt Ideal) ℓ) (c : Dev nD)
    (X : FVec Ideal ⟨2, ![8192, 8192]⟩ .f32) (W : FVec Ideal ⟨2, ![8192, 4096]⟩ .f32)
    (hX : ∀ o : Dev nD, (show FVec Ideal ⟨2, ![512, 8192]⟩ .f32 from xblk m o) = Layout.block ⟨2, ![512, 8192]⟩ ⟨2, ![8192, 8192]⟩ 0 16 o X)
    (w : FVec Ideal ⟨2, ![8192, 256]⟩ .f32)
    (hW : w = Layout.block ⟨2, ![8192, 256]⟩ ⟨2, ![8192, 4096]⟩ 1 16 c W) :
    (show FVec Ideal ⟨2, ![8192, 256]⟩ .f32 from outOf m w) = Layout.block ⟨2, ![8192, 256]⟩ ⟨2, ![8192, 4096]⟩ 1 16 c (product X W) := by
  funext i
  have hc : c.val < 16 := c.isLt
  have h0 : (i 0).val < 8192 := (i 0).isLt
  have h1 : (i 1).val < 256 := (i 1).isLt
  have hi : inStripe i = ix2 ⟨(i 0).val % 512, Nat.mod_lt _ (by decide)⟩ ⟨(i 1).val, h1⟩ := by
    funext a; fin_cases a <;> rfl
  show tile (F := Ideal) (xblk m (stripeOf i)) w (inStripe i) = product X W (Layout.Tiles.idx _ c i)
  have hp : Layout.Tiles.idx (S := ⟨2, ![8192, 256]⟩) (T := ⟨2, ![8192, 4096]⟩) (a := 1) (k := 16) (by decide) c i
      = ix2 ⟨(i 0).val, h0⟩ ⟨c.val * 256 + (i 1).val, by omega⟩ := by
    funext a; apply Fin.ext; fin_cases a <;> rfl
  rw [hi, hp, product_at]
  refine (tile_at _ w _ _).trans (Finset.sum_congr rfl fun k _ => ?_)
  congr 1
  · refine (congrFun (hX (stripeOf i)) _).trans ?_
    refine congrArg X ?_
    funext a; apply Fin.ext
    fin_cases a
    · show (stripeOf i).val * 512 + (i 0).val % 512 = (i 0).val
      show (i 0).val / 512 * 512 + (i 0).val % 512 = (i 0).val
      omega
    · rfl
  · rw [hW]
    refine congrArg W ?_
    funext a; apply Fin.ext
    fin_cases a <;> rfl

end Cert.RingMatmul
end
-- ==== Proof.Same.lean ====
module

public import proofs.«01_k».proof.Proof.Gen.Kernel
public import proofs.«01_k».proof.Proof.Gen.KernelIdeal

/-! # The two printed programs are one

No rewrite was applied between the program printed for the machine's floats and the one printed for the extended
reals, so that, read over the same floats, they are equal. -/

@[expose] public section

noncomputable section

namespace Cert.RingMatmul

open Idealize.ShloMosaic

variable {F : FTy → Type} [FloatOps F]

/-- The kernel's body, -/
theorem body_same : @Cert.Kernel.cc0_body F _ Cert.Kernel.Gen.facts = @Cert.KernelIdeal.cc0_body F _ Cert.KernelIdeal.Gen.facts := rfl

/-- the bodies' table, -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl

/-- the whole table -/
theorem defs_same : @Cert.Kernel.defs F _ Cert.Kernel.Gen.facts = @Cert.KernelIdeal.defs F _ Cert.KernelIdeal.Gen.facts := by
  unfold Cert.Kernel.defs Cert.KernelIdeal.defs
  rw [defs₀_same]
  rfl

/-- and the program that calls it. -/
theorem main_same : Cert.Kernel.main (F := F) = Cert.KernelIdeal.main (F := F) := rfl

end Cert.RingMatmul
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.RingMatmul

/-- The kernel at the machine's own floats: it ends, its arguments are as they were, every counter is zero. -/
theorem frame_kernel : quiescent_Kernel (hKernel := Cert.Kernel.Gen.facts) := fun m ρ _ => by
  rw [defs_same, main_same]
  exact (θ_run (Cert.KernelIdeal.defs (F := Bits)) _ _).mono
    (fun _ h => ⟨fun c => ⟨(h.1 c).2, ((h.1 c).1 (0 : Fin 2)).trans (fin_w m ρ c)⟩, h.2⟩) (run_main (F := Bits) m ρ)

/-- The same over the extended reals. -/
theorem frame_ideal : quiescent_KernelIdeal (hKernelIdeal := Cert.KernelIdeal.Gen.facts) := fun m ρ _ =>
  (θ_run (Cert.KernelIdeal.defs (F := Ideal)) _ _).mono
    (fun _ h => ⟨fun c => ⟨(h.1 c).2, ((h.1 c).1 (0 : Fin 2)).trans (fin_w m ρ c)⟩, h.2⟩) (run_main (F := Ideal) m ρ)

/-- The reference uses no semaphore and writes only its result. -/
theorem frame_reference : quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Every device's result is its block of columns of the reference's product. -/
theorem value : algebraic_KernelIdeal_ReferenceIdeal (hKernelIdeal := Cert.KernelIdeal.Gen.facts)
    (hReferenceIdeal := Cert.ReferenceIdeal.Gen.facts) := fun m ρ m' ρ' _ hm =>
  ⟨product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(((h.1 c).1 (1 : Fin 2)).trans (fin_out m ρ c)).trans
          (outOf_block m c _ _ (fun o => (hm o).1) _ (hm c).2),
        (h.1 c).2, ((h.1 c).1 (0 : Fin 2)).trans (fin_w m ρ c)⟩) (run_main (F := Ideal) m ρ),
    (θ_run (Cert.ReferenceIdeal.defs (F := Ideal)) _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
